-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2x2048x512 : Shape := ⟨3, ![2, 2048, 512]⟩
abbrev S4x1024x512 : Shape := ⟨3, ![4, 1024, 512]⟩
abbrev S2x1024x512 : Shape := ⟨3, ![2, 1024, 512]⟩
abbrev S2 : Shape := ⟨1, ![2]⟩
abbrev S4 : Shape := ⟨1, ![4]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x2048x128 : Shape := ⟨3, ![1, 2048, 128]⟩
abbrev S2048x128 : Shape := ⟨2, ![2048, 128]⟩
abbrev S1x1024x128 : Shape := ⟨3, ![1, 1024, 128]⟩
abbrev S1024x128 : Shape := ⟨2, ![1024, 128]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S2048x2048, .f32⟩
  | .local _ .vmem, ⟨1, _⟩ => ⟨S2x2048x512, .f32⟩
  | .local _ .vmem, ⟨2, _⟩ => ⟨S2x2048x512, .f32⟩
  | .local _ .vmem, ⟨3, _⟩ => ⟨S4x1024x512, .f32⟩
  | .local _ .vmem, ⟨4, _⟩ => ⟨S4x1024x512, .f32⟩
  | .local _ .vmem, ⟨5, _⟩ => ⟨S2x1024x512, .f32⟩
  | .local _ .vmem, ⟨6, _⟩ => ⟨S2x1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v33 : BitVec 32 := Scalar.muli v9 c1_i32_20
  let v34 : BitVec 32 := Scalar.addi v32 v33
  v34.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v35 : BitVec 32 := Scalar.muli v10 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v43 : BitVec 32 := Scalar.muli v11 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_off1 (d0 : Dev nD) (c0_i32_31 : BitVec 32) : Fin 2 → Nat :=
  let c0_i32_36 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32 : BitVec 32 := 2048#32
  let v14 : BitVec 32 := Scalar.muli v13 c2048_i32
  let v47 : BitVec 32 := Scalar.addi v14 c0_i32_31
  ![0, v47.toNat]
def k0_off2 (d0 : Dev nD) : Fin 3 → Nat :=
  let c0_i32_56 : BitVec 32 := 0#32
  let c1_i32_55 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_55 v8
  let c1024_i32 : BitVec 32 := 1024#32
  let v73 : BitVec 32 := Scalar.muli v72 c1024_i32
  let c0_i32_66 : BitVec 32 := 0#32
  ![0, v73.toNat, 0]
def k0_dev4 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v74 : BitVec 32 := Scalar.muli v2 c4_i32_60
  let v75 : BitVec 32 := Scalar.addi c0_i32_61 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v76 : BitVec 32 := Scalar.muli v5 c2_i32_62
  let v77 : BitVec 32 := Scalar.addi v75 v76
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_63 : BitVec 32 := 1#32
  let v78 : BitVec 32 := Scalar.muli v9 c1_i32_63
  let v79 : BitVec 32 := Scalar.addi v77 v78
  v79.toNat
def k0_off3 (d0 : Dev nD) : Fin 3 → Nat :=
  let c0_i32_77 : BitVec 32 := 0#32
  let c1_i32_75 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_75 v8
  let c1024_i32_76 : BitVec 32 := 1024#32
  let v96 : BitVec 32 := Scalar.muli v95 c1024_i32_76
  let c128_i32_86 : BitVec 32 := 128#32
  ![0, v96.toNat, 128]
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v97 : BitVec 32 := Scalar.muli v2 c4_i32_81
  let v98 : BitVec 32 := Scalar.addi c0_i32_82 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v99 : BitVec 32 := Scalar.muli v5 c2_i32_83
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v101 : BitVec 32 := Scalar.muli v9 c1_i32_84
  let v102 : BitVec 32 := Scalar.addi v100 v101
  v102.toNat
def k0_off4 (d0 : Dev nD) : Fin 3 → Nat :=
  let c0_i32_97 : BitVec 32 := 0#32
  let c1_i32_95 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.subi c1_i32_95 v8
  let c1024_i32_96 : BitVec 32 := 1024#32
  let v119 : BitVec 32 := Scalar.muli v118 c1024_i32_96
  let c256_i32_106 : BitVec 32 := 256#32
  ![0, v119.toNat, 256]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v120 : BitVec 32 := Scalar.muli v2 c4_i32_101
  let v121 : BitVec 32 := Scalar.addi c0_i32_102 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v122 : BitVec 32 := Scalar.muli v5 c2_i32_103
  let v123 : BitVec 32 := Scalar.addi v121 v122
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v124 : BitVec 32 := Scalar.muli v9 c1_i32_104
  let v125 : BitVec 32 := Scalar.addi v123 v124
  v125.toNat
def k0_off5 (d0 : Dev nD) : Fin 3 → Nat :=
  let c0_i32_117 : BitVec 32 := 0#32
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.subi c1_i32_115 v8
  let c1024_i32_116 : BitVec 32 := 1024#32
  let v142 : BitVec 32 := Scalar.muli v141 c1024_i32_116
  let c384_i32_126 : BitVec 32 := 384#32
  ![0, v142.toNat, 384]
def k0_dev7 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v143 : BitVec 32 := Scalar.muli v2 c4_i32_121
  let v144 : BitVec 32 := Scalar.addi c0_i32_122 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v145 : BitVec 32 := Scalar.muli v5 c2_i32_123
  let v146 : BitVec 32 := Scalar.addi v144 v145
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_124 : BitVec 32 := 1#32
  let v147 : BitVec 32 := Scalar.muli v9 c1_i32_124
  let v148 : BitVec 32 := Scalar.addi v146 v147
  v148.toNat
def k0_off6 (d0 : Dev nD) : Fin 3 → Nat :=
  let c1_i32_149 : BitVec 32 := 1#32
  let c1_i32_147 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_147 v8
  let c1024_i32_148 : BitVec 32 := 1024#32
  let v177 : BitVec 32 := Scalar.muli v176 c1024_i32_148
  let c0_i32_159 : BitVec 32 := 0#32
  ![1, v177.toNat, 0]
def k0_dev8 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v178 : BitVec 32 := Scalar.muli v2 c4_i32_153
  let v179 : BitVec 32 := Scalar.addi c0_i32_154 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v180 : BitVec 32 := Scalar.muli v5 c2_i32_155
  let v181 : BitVec 32 := Scalar.addi v179 v180
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_156 : BitVec 32 := 1#32
  let v182 : BitVec 32 := Scalar.muli v9 c1_i32_156
  let v183 : BitVec 32 := Scalar.addi v181 v182
  v183.toNat
def k0_off7 (d0 : Dev nD) : Fin 3 → Nat :=
  let c0_224 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_223 : BitVec 32 := 1024#32
  let v260 : BitVec 32 := Scalar.muli v8 c1024_i32_223
  let v261 : Index := Scalar.indexCast v260
  let c0_225 : Index := 0#32
  ![0, v261.toNat, 0]
def k0_off8 (d0 : Dev nD) (c0_i32_232 : BitVec 32) : Fin 2 → Nat :=
  let c0_i32_235 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32 : BitVec 32 := 2048#32
  let v14 : BitVec 32 := Scalar.muli v13 c2048_i32
  let v270 : BitVec 32 := Scalar.addi v14 c0_i32_232
  ![0, v270.toNat]
def k0_dev9 (d0 : Dev nD) : Nat :=
  let c0_i32_243 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_242 : BitVec 32 := 4#32
  let v277 : BitVec 32 := Scalar.muli v10 c4_i32_242
  let v278 : BitVec 32 := Scalar.addi c0_i32_243 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v279 : BitVec 32 := Scalar.muli v5 c2_i32_244
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v281 : BitVec 32 := Scalar.muli v8 c1_i32_245
  let v282 : BitVec 32 := Scalar.addi v280 v281
  v282.toNat
def k0_dev10 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v290 : BitVec 32 := Scalar.muli v2 c4_i32_253
  let v291 : BitVec 32 := Scalar.addi c0_i32_254 v290
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_255 : BitVec 32 := 2#32
  let v292 : BitVec 32 := Scalar.muli v11 c2_i32_255
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v294 : BitVec 32 := Scalar.muli v8 c1_i32_256
  let v295 : BitVec 32 := Scalar.addi v293 v294
  v295.toNat
def k0_off9 (d0 : Dev nD) : Fin 3 → Nat :=
  let c0_i32_312 : BitVec 32 := 0#32
  let c1_i32_310 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v343 : BitVec 32 := Scalar.subi c1_i32_310 v8
  let c1024_i32_311 : BitVec 32 := 1024#32
  let v344 : BitVec 32 := Scalar.muli v343 c1024_i32_311
  let c0_i32_322 : BitVec 32 := 0#32
  ![0, v344.toNat, 0]
def k0_dev11 (d0 : Dev nD) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v345 : BitVec 32 := Scalar.muli v2 c4_i32_316
  let v346 : BitVec 32 := Scalar.addi c0_i32_317 v345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v347 : BitVec 32 := Scalar.muli v5 c2_i32_318
  let v348 : BitVec 32 := Scalar.addi v346 v347
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_319 : BitVec 32 := 1#32
  let v349 : BitVec 32 := Scalar.muli v9 c1_i32_319
  let v350 : BitVec 32 := Scalar.addi v348 v349
  v350.toNat
def k0_off10 (d0 : Dev nD) : Fin 3 → Nat :=
  let c1_343 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_342 : BitVec 32 := 1024#32
  let v379 : BitVec 32 := Scalar.muli v8 c1024_i32_342
  let v380 : Index := Scalar.indexCast v379
  let c0_344 : Index := 0#32
  ![1, v380.toNat, 0]
def k0_dev12 (d0 : Dev nD) : Nat :=
  let c0_i32_362 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_361 : BitVec 32 := 4#32
  let v396 : BitVec 32 := Scalar.muli v10 c4_i32_361
  let v397 : BitVec 32 := Scalar.addi c0_i32_362 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v398 : BitVec 32 := Scalar.muli v5 c2_i32_363
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v400 : BitVec 32 := Scalar.muli v8 c1_i32_364
  let v401 : BitVec 32 := Scalar.addi v399 v400
  v401.toNat
def k0_dev13 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v409 : BitVec 32 := Scalar.muli v2 c4_i32_372
  let v410 : BitVec 32 := Scalar.addi c0_i32_373 v409
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_374 : BitVec 32 := 2#32
  let v411 : BitVec 32 := Scalar.muli v11 c2_i32_374
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v413 : BitVec 32 := Scalar.muli v8 c1_i32_375
  let v414 : BitVec 32 := Scalar.addi v412 v413
  v414.toNat
def k0_dev14 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v440 : BitVec 32 := Scalar.muli v2 c4_i32_405
  let v441 : BitVec 32 := Scalar.addi c0_i32_406 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_407 : BitVec 32 := 2#32
  let v442 : BitVec 32 := Scalar.muli v5 c2_i32_407
  let v443 : BitVec 32 := Scalar.addi v441 v442
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_408 : BitVec 32 := 1#32
  let v444 : BitVec 32 := Scalar.muli v9 c1_i32_408
  let v445 : BitVec 32 := Scalar.addi v443 v444
  v445.toNat
def k0_dev15 (d0 : Dev nD) : Nat :=
  let c0_i32_444 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_443 : BitVec 32 := 4#32
  let v484 : BitVec 32 := Scalar.muli v10 c4_i32_443
  let v485 : BitVec 32 := Scalar.addi c0_i32_444 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v486 : BitVec 32 := Scalar.muli v5 c2_i32_445
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_446 : BitVec 32 := 1#32
  let v488 : BitVec 32 := Scalar.muli v8 c1_i32_446
  let v489 : BitVec 32 := Scalar.addi v487 v488
  v489.toNat
def k0_dev16 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v499 : BitVec 32 := Scalar.muli v2 c4_i32_455
  let v500 : BitVec 32 := Scalar.addi c0_i32_456 v499
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_457 : BitVec 32 := 2#32
  let v501 : BitVec 32 := Scalar.muli v11 c2_i32_457
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_458 : BitVec 32 := 1#32
  let v503 : BitVec 32 := Scalar.muli v8 c1_i32_458
  let v504 : BitVec 32 := Scalar.addi v502 v503
  v504.toNat
def k0_dev17 (d0 : Dev nD) : Nat :=
  let c0_i32_494 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_493 : BitVec 32 := 4#32
  let v542 : BitVec 32 := Scalar.muli v10 c4_i32_493
  let v543 : BitVec 32 := Scalar.addi c0_i32_494 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_495 : BitVec 32 := 2#32
  let v544 : BitVec 32 := Scalar.muli v5 c2_i32_495
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_496 : BitVec 32 := 1#32
  let v546 : BitVec 32 := Scalar.muli v8 c1_i32_496
  let v547 : BitVec 32 := Scalar.addi v545 v546
  v547.toNat
def k0_dev18 (d0 : Dev nD) : Nat :=
  let c0_i32_506 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_505 : BitVec 32 := 4#32
  let v557 : BitVec 32 := Scalar.muli v2 c4_i32_505
  let v558 : BitVec 32 := Scalar.addi c0_i32_506 v557
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_507 : BitVec 32 := 2#32
  let v559 : BitVec 32 := Scalar.muli v11 c2_i32_507
  let v560 : BitVec 32 := Scalar.addi v558 v559
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_508 : BitVec 32 := 1#32
  let v561 : BitVec 32 := Scalar.muli v8 c1_i32_508
  let v562 : BitVec 32 := Scalar.addi v560 v561
  v562.toNat
def k0_off11 (d0 : Dev nD) (c1024_i32_524 : BitVec 32) : Fin 2 → Nat :=
  let c0_i32_527 : BitVec 32 := 0#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.addi v16 v5
  let c2048_i32_9 : BitVec 32 := 2048#32
  let v18 : BitVec 32 := Scalar.muli v17 c2048_i32_9
  let v582 : BitVec 32 := Scalar.addi v18 c1024_i32_524
  ![0, v582.toNat]
def k0_dev19 (d0 : Dev nD) : Nat :=
  let c0_i32_535 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_534 : BitVec 32 := 4#32
  let v589 : BitVec 32 := Scalar.muli v2 c4_i32_534
  let v590 : BitVec 32 := Scalar.addi c0_i32_535 v589
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_536 : BitVec 32 := 2#32
  let v591 : BitVec 32 := Scalar.muli v11 c2_i32_536
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_537 : BitVec 32 := 1#32
  let v593 : BitVec 32 := Scalar.muli v8 c1_i32_537
  let v594 : BitVec 32 := Scalar.addi v592 v593
  v594.toNat
def k0_off12 (d0 : Dev nD) (c0_i32_553 : BitVec 32) : Fin 2 → Nat :=
  let c0_i32_556 : BitVec 32 := 0#32
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.addi v19 v20
  let c2048_i32_12 : BitVec 32 := 2048#32
  let v22 : BitVec 32 := Scalar.muli v21 c2048_i32_12
  let v614 : BitVec 32 := Scalar.addi v22 c0_i32_553
  ![0, v614.toNat]
def k0_dev20 (d0 : Dev nD) : Nat :=
  let c0_i32_564 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_563 : BitVec 32 := 4#32
  let v621 : BitVec 32 := Scalar.muli v10 c4_i32_563
  let v622 : BitVec 32 := Scalar.addi c0_i32_564 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_565 : BitVec 32 := 2#32
  let v623 : BitVec 32 := Scalar.muli v5 c2_i32_565
  let v624 : BitVec 32 := Scalar.addi v622 v623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_566 : BitVec 32 := 1#32
  let v625 : BitVec 32 := Scalar.muli v8 c1_i32_566
  let v626 : BitVec 32 := Scalar.addi v624 v625
  v626.toNat
def k0_dev21 (d0 : Dev nD) : Nat :=
  let c0_i32_593 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_592 : BitVec 32 := 4#32
  let v653 : BitVec 32 := Scalar.muli v2 c4_i32_592
  let v654 : BitVec 32 := Scalar.addi c0_i32_593 v653
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_594 : BitVec 32 := 2#32
  let v655 : BitVec 32 := Scalar.muli v11 c2_i32_594
  let v656 : BitVec 32 := Scalar.addi v654 v655
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_595 : BitVec 32 := 1#32
  let v657 : BitVec 32 := Scalar.muli v8 c1_i32_595
  let v658 : BitVec 32 := Scalar.addi v656 v657
  v658.toNat
def k0_dev22 (d0 : Dev nD) : Nat :=
  let c0_i32_622 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_621 : BitVec 32 := 4#32
  let v685 : BitVec 32 := Scalar.muli v10 c4_i32_621
  let v686 : BitVec 32 := Scalar.addi c0_i32_622 v685
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_623 : BitVec 32 := 2#32
  let v687 : BitVec 32 := Scalar.muli v5 c2_i32_623
  let v688 : BitVec 32 := Scalar.addi v686 v687
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v689 : BitVec 32 := Scalar.muli v8 c1_i32_624
  let v690 : BitVec 32 := Scalar.addi v688 v689
  v690.toNat
def k0_off13 (d0 : Dev nD) (c0_i32_790 : BitVec 32) : Fin 2 → Nat :=
  let c0_i32_798 : BitVec 32 := 0#32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c2048_i32_16 : BitVec 32 := 2048#32
  let v27 : BitVec 32 := Scalar.muli v26 c2048_i32_16
  let v834 : BitVec 32 := Scalar.addi v27 c0_i32_790
  ![0, v834.toNat]
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
The kernel's body as one flat program: the views and semaphores it names, its operations in a few families
(each family one definition over the device, the block and the slot), the eight phases they make, and that
the printed body is those phases in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-! ## Bounds of the slices -/

/-- A slot of the double buffer is within it. -/
theorem inb_dv (s : Fin 2) : ∀ a, (![s.val, 0, 0] : Fin 3 → ℕ) a + S1x2048x512.size a ≤ S2x2048x512.size a := by revert s; decide
/-- A slot of a four-slot buffer is within it. -/
theorem inb_z (b : Fin 4) : ∀ a, (![b.val, 0, 0] : Fin 3 → ℕ) a + S1x1024x512.size a ≤ S4x1024x512.size a := by revert b; decide
/-- 128 columns of its slot 0 are within it. -/
theorem inb_zk (k : Fin 4) : ∀ a, (![0, 0, 128 * k.val] : Fin 3 → ℕ) a + S1x1024x128.size a ≤ S4x1024x512.size a := by revert k; decide
/-- 128 columns of slot 0 of a two-slot buffer are within it. -/
theorem inb_dk (k : Fin 4) : ∀ a, (![0, 0, 128 * k.val] : Fin 3 → ℕ) a + S1x2048x128.size a ≤ S2x2048x512.size a := by revert k; decide
/-- A slot of a forwarding buffer is within it. -/
theorem inb_f (f : Fin 2) : ∀ a, (![f.val, 0, 0] : Fin 3 → ℕ) a + S1x1024x512.size a ≤ S2x1024x512.size a := by revert f; decide
/-- A semaphore of two is among them. -/
theorem inb_s2 (i : Fin 2) : ∀ a, (![i.val] : Fin 1 → ℕ) a + S1.size a ≤ S2.size a := by revert i; decide
/-- A semaphore of four is among them. -/
theorem inb_s4 (i : Fin 4) : ∀ a, (![i.val] : Fin 1 → ℕ) a + S1.size a ≤ S4.size a := by revert i; decide

/-! ## Views -/

/-- A 512-column block of the result. -/
abbrev vOut (off : Fin 2 → ℕ) (h : ∀ a, off a + S1024x512.size a ≤ S1024x8192.size a) : Memref sig .tc .hbm S1024x512 .f32 :=
  (Memref.whole main_v1).slice (Rect.unit (s := S1024x8192) off S1024x512.size h) (fun _ => rfl)
/-- A 512-column block of `dy`. -/
abbrev vDy (off : Fin 2 → ℕ) (h : ∀ a, off a + S2048x512.size a ≤ S2048x8192.size a) : Memref sig .tc .hbm S2048x512 .f32 :=
  (Memref.whole main_arg1).slice (Rect.unit (s := S2048x8192) off S2048x512.size h) (fun _ => rfl)
/-- A slot of the `dy` double buffer. -/
abbrev vDv (s : Fin 2) : Memref sig .tc .vmem S2048x512 .f32 :=
  ((Memref.whole cc0_scratch1).slice (Rect.unit (s := S2x2048x512) ![s.val, 0, 0] S1x2048x512.size (inb_dv s)) (fun _ => rfl)).squeeze S2048x512 squeezes_S1x2048x512_S2048x512
/-- Half the rows of a slot of the partial products. -/
abbrev vHalf (off : Fin 3 → ℕ) (h : ∀ a, off a + S1x1024x512.size a ≤ S2x2048x512.size a) : Memref sig .tc .vmem S1024x512 .f32 :=
  ((Memref.whole cc0_scratch2).slice (Rect.unit (s := S2x2048x512) off S1x1024x512.size h) (fun _ => rfl)).squeeze S1024x512 squeezes_S1x1024x512_S1024x512
/-- 128 columns of half the rows of a slot of the partial products. -/
abbrev vHalfK (off : Fin 3 → ℕ) (h : ∀ a, off a + S1x1024x128.size a ≤ S2x2048x512.size a) : Memref sig .tc .vmem S1024x128 .f32 :=
  ((Memref.whole cc0_scratch2).slice (Rect.unit (s := S2x2048x512) off S1x1024x128.size h) (fun _ => rfl)).squeeze S1024x128 squeezes_S1x1024x128_S1024x128
/-- A slot of the buffer the z neighbour's halves land in. -/
abbrev vZ (b : Fin 4) : Memref sig .tc .vmem S1024x512 .f32 :=
  ((Memref.whole cc0_scratch3).slice (Rect.unit (s := S4x1024x512) ![b.val, 0, 0] S1x1024x512.size (inb_z b)) (fun _ => rfl)).squeeze S1024x512 squeezes_S1x1024x512_S1024x512
/-- 128 columns of slot 0 of it. -/
abbrev vZK (k : Fin 4) : Memref sig .tc .vmem S1024x128 .f32 :=
  ((Memref.whole cc0_scratch3).slice (Rect.unit (s := S4x1024x512) ![0, 0, 128 * k.val] S1x1024x128.size (inb_zk k)) (fun _ => rfl)).squeeze S1024x128 squeezes_S1x1024x128_S1024x128
/-- A slot of the finished sums. -/
abbrev vS (b : Fin 4) : Memref sig .tc .vmem S1024x512 .f32 :=
  ((Memref.whole cc0_scratch4).slice (Rect.unit (s := S4x1024x512) ![b.val, 0, 0] S1x1024x512.size (inb_z b)) (fun _ => rfl)).squeeze S1024x512 squeezes_S1x1024x512_S1024x512
/-- A slot of the x neighbour's forwarded blocks. -/
abbrev vFx (f : Fin 2) : Memref sig .tc .vmem S1024x512 .f32 :=
  ((Memref.whole cc0_scratch5).slice (Rect.unit (s := S2x1024x512) ![f.val, 0, 0] S1x1024x512.size (inb_f f)) (fun _ => rfl)).squeeze S1024x512 squeezes_S1x1024x512_S1024x512
/-- A slot of the y neighbour's forwarded blocks. -/
abbrev vFy (f : Fin 2) : Memref sig .tc .vmem S1024x512 .f32 :=
  ((Memref.whole cc0_scratch6).slice (Rect.unit (s := S2x1024x512) ![f.val, 0, 0] S1x1024x512.size (inb_f f)) (fun _ => rfl)).squeeze S1024x512 squeezes_S1x1024x512_S1024x512

/-- Semaphore `i` of an array of two. -/
abbrev sem2 (A : DmaSems sig S2) (i : Fin 2) : DmaSem sig := ((A.slice (Rect.unit (s := S2) ![i.val] S1.size (inb_s2 i))).squeeze S_ squeezes_S1_S_).sem
/-- Semaphore `i` of an array of four. -/
abbrev sem4 (A : DmaSems sig S4) (i : Fin 4) : DmaSem sig := ((A.slice (Rect.unit (s := S4) ![i.val] S1.size (inb_s4 i))).squeeze S_ squeezes_S1_S_).sem
/-- The runtime's barrier semaphore. -/
abbrev barS : Sem sig := (SemArray.scalar (sig.barrier 0 rfl) : Sems sig S_).sem

/-! ## The operations -/

/-- A program of the kernel's effects. -/
abbrev TP (F : FTy → Type) (α : Type) := Prog (TpuEff nD τ sig (Elt F) Λ₀ .tc) α

/-- The start of the copy of block `b` of this device's column group of `dy` into slot `s`. -/
def dyStart (c : Dev nD) (b : Fin 4) (s : Fin 2) : TP F PUnit :=
  Prog.lift (.enqueueDma (vDy (k0_off1 c (BitVec.ofNat 32 (512 * b.val))) (k0_off1_inb c b)) (.here (vDv s)) (.dma (sem2 cc0_scratch7 s))
    (View.wordExact_bits rfl) ((View.wordExact_bits rfl).reshape _ _) ⟨Or.inl rfl, trivial⟩)
/-- The wait for it. -/
def dyWait (c : Dev nD) (b : Fin 4) (s : Fin 2) : TP F PUnit :=
  Prog.lift (.waitDma2 (sem2 cc0_scratch7 s) (vDy (k0_off1 c (BitVec.ofNat 32 (512 * b.val))) (k0_off1_inb c b)) (vDv s)
    (View.wordExact_bits rfl) ((View.wordExact_bits rfl).reshape _ _))
/-- The start of the copy of `x`. -/
def xStart : TP F PUnit :=
  Prog.lift (.enqueueDma (Memref.whole main_arg0) (.here (Memref.whole cc0_scratch0)) (.dma cc0_scratch24.sem)
    (Memref.isWhole_whole main_arg0).wordExact (Memref.isWhole_whole cc0_scratch0).wordExact ⟨Or.inl rfl, trivial⟩)
/-- The wait for it. -/
def xWait : TP F PUnit :=
  Prog.lift (.waitDma2 cc0_scratch24.sem (Memref.whole main_arg0) (Memref.whole cc0_scratch0)
    (Memref.isWhole_whole main_arg0).wordExact (Memref.isWhole_whole cc0_scratch0).wordExact)
/-- The product of `x` with 128 columns of `dy`'s slot 0, into slot 0 of the partial products. -/
def mmK (k : Fin 4) : TP F PUnit := do
  let x ← Prog.lift (.load (Memref.whole cc0_scratch0) (Rect.unit (s := S2048x2048) ![0, 0] S2048x2048.size inb_S2048x2048_S2048x2048_0_0).toLoadRect (View.loadsAt_vmem h_S2048x2048))
  let d ← Prog.lift (.load (Memref.whole cc0_scratch1) (Rect.unit (s := S2x2048x512) ![0, 0, 128 * k.val] S1x2048x128.size (inb_dk k)).toLoadRect (View.loadsAt_vmem h_S1x2048x128))
  let _ ← Prog.lift (.load (Memref.whole cc0_scratch2) (Rect.unit (s := S2x2048x512) ![0, 0, 128 * k.val] S1x2048x128.size (inb_dk k)).toLoadRect (View.loadsAt_vmem h_S1x2048x128))
  Prog.lift (.store (Memref.whole cc0_scratch2) (Rect.unit (s := S2x2048x512) ![0, 0, 128 * k.val] S1x2048x128.size (inb_dk k)) (k0_pay1 x d) Finset.univ (View.stores_vmem_bits_univ h_S1x2048x128 rfl) (.inl rfl))
/-- The product of `x` with `dy`'s slot `s`, into slot `s` of the partial products. -/
def mm (s : Fin 2) : TP F PUnit := do
  let x ← Prog.lift (.load (Memref.whole cc0_scratch0) (Rect.unit (s := S2048x2048) ![0, 0] S2048x2048.size inb_S2048x2048_S2048x2048_0_0).toLoadRect (View.loadsAt_vmem h_S2048x2048))
  let d ← Prog.lift (.load (Memref.whole cc0_scratch1) (Rect.unit (s := S2x2048x512) ![s.val, 0, 0] S1x2048x512.size (inb_dv s)).toLoadRect (View.loadsAt_vmem h_S1x2048x512))
  let _ ← Prog.lift (.load (Memref.whole cc0_scratch2) (Rect.unit (s := S2x2048x512) ![s.val, 0, 0] S1x2048x512.size (inb_dv s)).toLoadRect (View.loadsAt_vmem h_S1x2048x512))
  Prog.lift (.store (Memref.whole cc0_scratch2) (Rect.unit (s := S2x2048x512) ![s.val, 0, 0] S1x2048x512.size (inb_dv s)) (k0_pay10 x d) Finset.univ (View.stores_vmem_bits_univ h_S1x2048x512 rfl) (.inl rfl))
/-- The transfer of 128 columns of the other half of slot 0 to device `n`. -/
def zkSend (n : Dev nD) (off : Fin 3 → ℕ) (h : ∀ a, off a + S1x1024x128.size a ≤ S2x2048x512.size a) (k : Fin 4) : TP F PUnit :=
  Prog.lift (.enqueueDma (vHalfK off h) (.remote (Dev.tc n) (vZK k) (.dma (sem4 cc0_scratch10 k))) (.dma (sem4 cc0_scratch11 k))
    ((View.wordExact_bits rfl).reshape _ _) ((View.wordExact_bits rfl).reshape _ _) ⟨⟨rfl, Or.inl rfl⟩, trivial⟩)
/-- The wait for 128 columns from the z neighbour. -/
def zkWaitR (off : Fin 3 → ℕ) (h : ∀ a, off a + S1x1024x128.size a ≤ S2x2048x512.size a) (k : Fin 4) : TP F PUnit :=
  Prog.lift (.waitDma2 (sem4 cc0_scratch11 k) (vHalfK off h) (vZK k) ((View.wordExact_bits rfl).reshape _ _) ((View.wordExact_bits rfl).reshape _ _))
/-- The wait for the transfer of 128 columns to have left. -/
def zkWaitS (off : Fin 3 → ℕ) (h : ∀ a, off a + S1x1024x128.size a ≤ S2x2048x512.size a) (k : Fin 4) : TP F PUnit :=
  Prog.lift (.waitDma2 (sem4 cc0_scratch10 k) (vZK k) (vHalfK off h) ((View.wordExact_bits rfl).reshape _ _) ((View.wordExact_bits rfl).reshape _ _))
/-- The transfer of the other half of a slot to device `n`, for block `b`. -/
def zSend (n : Dev nD) (off : Fin 3 → ℕ) (h : ∀ a, off a + S1x1024x512.size a ≤ S2x2048x512.size a) (b : Fin 4) : TP F PUnit :=
  Prog.lift (.enqueueDma (vHalf off h) (.remote (Dev.tc n) (vZ b) (.dma (sem4 cc0_scratch8 b))) (.dma (sem4 cc0_scratch9 b))
    ((View.wordExact_bits rfl).reshape _ _) ((View.wordExact_bits rfl).reshape _ _) ⟨⟨rfl, Or.inl rfl⟩, trivial⟩)
/-- The wait for block `b` from the z neighbour. -/
def zWaitR (off : Fin 3 → ℕ) (h : ∀ a, off a + S1x1024x512.size a ≤ S2x2048x512.size a) (b : Fin 4) : TP F PUnit :=
  Prog.lift (.waitDma2 (sem4 cc0_scratch9 b) (vHalf off h) (vZ b) ((View.wordExact_bits rfl).reshape _ _) ((View.wordExact_bits rfl).reshape _ _))
/-- The wait for block `b` to have left. -/
def zWaitS (off : Fin 3 → ℕ) (h : ∀ a, off a + S1x1024x512.size a ≤ S2x2048x512.size a) (b : Fin 4) : TP F PUnit :=
  Prog.lift (.waitDma2 (sem4 cc0_scratch8 b) (vZ b) (vHalf off h) ((View.wordExact_bits rfl).reshape _ _) ((View.wordExact_bits rfl).reshape _ _))
/-- The sum of this device's half of block `b` and the z neighbour's. -/
def fin (off : Fin 3 → ℕ) (h : ∀ a, off a + S1x1024x512.size a ≤ S2x2048x512.size a) (b : Fin 4) : TP F PUnit := do
  let p ← Prog.lift (.load (Memref.whole cc0_scratch2) (Rect.unit (s := S2x2048x512) off S1x1024x512.size h).toLoadRect (View.loadsAt_vmem h_S1x1024x512))
  let z ← Prog.lift (.load (Memref.whole cc0_scratch3) (Rect.unit (s := S4x1024x512) ![b.val, 0, 0] S1x1024x512.size (inb_z b)).toLoadRect (View.loadsAt_vmem h_S1x1024x512))
  let _ ← Prog.lift (.load (Memref.whole cc0_scratch4) (Rect.unit (s := S4x1024x512) ![b.val, 0, 0] S1x1024x512.size (inb_z b)).toLoadRect (View.loadsAt_vmem h_S1x1024x512))
  Prog.lift (.store (Memref.whole cc0_scratch4) (Rect.unit (s := S4x1024x512) ![b.val, 0, 0] S1x1024x512.size (inb_z b)) (k0_pay11 p z) Finset.univ (View.stores_vmem_bits_univ h_S1x1024x512 rfl) (.inl rfl))
/-- A local copy of a block in VMEM to a block of the result, on semaphore `sm`. -/
def outCopy (src : Memref sig .tc .vmem S1024x512 .f32) (hw : src.view.WordExact) (off : Fin 2 → ℕ) (h : ∀ a, off a + S1024x512.size a ≤ S1024x8192.size a) (sm : DmaSem sig) : TP F PUnit :=
  Prog.lift (.enqueueDma src (.here (vOut off h)) (.dma sm) hw (View.wordExact_bits rfl) ⟨Or.inl rfl, trivial⟩)
/-- A transfer of a block in VMEM to a block of device `n`'s result. -/
def outSend (src : Memref sig .tc .vmem S1024x512 .f32) (hw : src.view.WordExact) (n : Dev nD) (off : Fin 2 → ℕ) (h : ∀ a, off a + S1024x512.size a ≤ S1024x8192.size a) (sS sR : DmaSem sig) : TP F PUnit :=
  Prog.lift (.enqueueDma src (.remote (Dev.tc n) (vOut off h) (.dma sS)) (.dma sR) hw (View.wordExact_bits rfl) ⟨⟨rfl, Or.inl rfl⟩, trivial⟩)
/-- A transfer of a block in VMEM to a block of device `n`'s VMEM. -/
def fwdSend (src : Memref sig .tc .vmem S1024x512 .f32) (hw : src.view.WordExact) (n : Dev nD) (dst : Memref sig .tc .vmem S1024x512 .f32) (hw' : dst.view.WordExact)
    (hs : dst.view.ref.isScScratch = false) (sS sR : DmaSem sig) : TP F PUnit :=
  Prog.lift (.enqueueDma src (.remote (Dev.tc n) dst (.dma sS) hs) (.dma sR) hw hw' ⟨⟨rfl, Or.inl rfl⟩, trivial⟩)
/-- A wait for one block's credit. -/
def blkWait {sp sp' : Space} (sm : DmaSem sig) (src : Memref sig .tc sp S1024x512 .f32) (dst : Memref sig .tc sp' S1024x512 .f32)
    (hw : src.view.WordExact) (hw' : dst.view.WordExact) : TP F PUnit :=
  Prog.lift (.waitDma2 sm src dst hw hw')

/-- A slot of the sums is whole words. -/
theorem weS (b : Fin 4) : (vS b).view.WordExact := (View.wordExact_bits rfl).reshape _ _
/-- A slot of the x forwarding buffer is whole words. -/
theorem weFx (f : Fin 2) : (vFx f).view.WordExact := (View.wordExact_bits rfl).reshape _ _
/-- A slot of the y forwarding buffer is whole words. -/
theorem weFy (f : Fin 2) : (vFy f).view.WordExact := (View.wordExact_bits rfl).reshape _ _
/-- A block of the result is whole words. -/
theorem weO (off : Fin 2 → ℕ) (h : ∀ a, off a + S1024x512.size a ≤ S1024x8192.size a) : (vOut off h).view.WordExact := View.wordExact_bits rfl

/-- A device named by a number below the mesh's size. -/
abbrev dv (n : ℕ) (h : n < nD) : Dev nD := ⟨n, h⟩

/-- A block of the result at this device's own column group. -/
abbrev o8 (c : Dev nD) (r : Fin 4) : Memref sig .tc .hbm S1024x512 .f32 := vOut (k0_off8 c (BitVec.ofNat 32 (512 * r.val))) (k0_off8_inb c r)
/-- A block of the x neighbour's columns of the result. -/
abbrev o11 (c : Dev nD) (r : Fin 4) : Memref sig .tc .hbm S1024x512 .f32 := vOut (k0_off11 c (BitVec.ofNat 32 (512 * r.val))) (k0_off11_inb c r)
/-- A block of the y neighbour's columns of the result. -/
abbrev o12 (c : Dev nD) (r : Fin 4) : Memref sig .tc .hbm S1024x512 .f32 := vOut (k0_off12 c (BitVec.ofNat 32 (512 * r.val))) (k0_off12_inb c r)
/-- A block of the diagonal device's columns of the result. -/
abbrev o13 (c : Dev nD) (r : Fin 4) : Memref sig .tc .hbm S1024x512 .f32 := vOut (k0_off13 c (BitVec.ofNat 32 (512 * r.val))) (k0_off13_inb c r)

/-! ## The phases -/

/-- `x` and the first two blocks of `dy` started, the neighbours met at the barrier. -/
def ph1 (c : Dev nD) : TP F PUnit := do
  xStart
  semSignalWord (dv (k0_dev1 c) (k0_dev1_lt c)) barS 1#32
  semSignalWord (dv (k0_dev2 c) (k0_dev2_lt c)) barS 1#32
  semSignalWord (dv (k0_dev3 c) (k0_dev3_lt c)) barS 1#32
  semWaitWord barS 3#32
  dyStart c 0 0
  dyStart c 1 1

/-- Block 0's products, sent to the z neighbour 128 columns at a time. -/
def ph2 (c : Dev nD) : TP F PUnit := do
  dyWait c 0 0
  xWait
  mmK 0
  zkSend (dv (k0_dev4 c) (k0_dev4_lt c)) (k0_off2 c) (k0_off2_inb c) 0
  mmK 1
  zkSend (dv (k0_dev5 c) (k0_dev5_lt c)) (k0_off3 c) (k0_off3_inb c) 1
  mmK 2
  zkSend (dv (k0_dev6 c) (k0_dev6_lt c)) (k0_off4 c) (k0_off4_inb c) 2
  mmK 3
  zkSend (dv (k0_dev7 c) (k0_dev7_lt c)) (k0_off5 c) (k0_off5_inb c) 3

/-- Block 1's product, sent; block 0's sum, stored and sent on. -/
def ph3 (c : Dev nD) : TP F PUnit := do
  dyStart c 2 0
  dyWait c 1 1
  mm 1
  zSend (dv (k0_dev8 c) (k0_dev8_lt c)) (k0_off6 c) (k0_off6_inb c) 1
  dyStart c 3 1
  dyWait c 2 0
  zkWaitR (k0_off2 c) (k0_off2_inb c) 0
  zkWaitR (k0_off3 c) (k0_off3_inb c) 1
  zkWaitR (k0_off4 c) (k0_off4_inb c) 2
  zkWaitR (k0_off5 c) (k0_off5_inb c) 3
  fin (k0_off7 c) (k0_off7_inb c) 0
  outCopy (vS 0) (weS 0) (k0_off8 c 0#32) (k0_off8_inb c 0) (sem4 cc0_scratch22 0)
  outSend (vS 0) (weS 0) (dv (k0_dev9 c) (k0_dev9_lt c)) (k0_off8 c 0#32) (k0_off8_inb c 0) (sem4 cc0_scratch12 0) (sem2 cc0_scratch16 0)
  fwdSend (vS 0) (weS 0) (dv (k0_dev10 c) (k0_dev10_lt c)) (vFy 0) (weFy 0) rfl (sem4 cc0_scratch13 0) (sem2 cc0_scratch20 0)

/-- Block 2's product, sent; block 1's sum, stored and sent on. -/
def ph4 (c : Dev nD) : TP F PUnit := do
  zkWaitS (k0_off2 c) (k0_off2_inb c) 0
  zkWaitS (k0_off3 c) (k0_off3_inb c) 1
  zkWaitS (k0_off4 c) (k0_off4_inb c) 2
  zkWaitS (k0_off5 c) (k0_off5_inb c) 3
  mm 0
  zSend (dv (k0_dev11 c) (k0_dev11_lt c)) (k0_off9 c) (k0_off9_inb c) 2
  dyWait c 3 1
  zWaitR (k0_off6 c) (k0_off6_inb c) 1
  fin (k0_off10 c) (k0_off10_inb c) 1
  outCopy (vS 1) (weS 1) (k0_off8 c 512#32) (k0_off8_inb c 1) (sem4 cc0_scratch22 1)
  outSend (vS 1) (weS 1) (dv (k0_dev12 c) (k0_dev12_lt c)) (k0_off8 c 512#32) (k0_off8_inb c 1) (sem4 cc0_scratch12 1) (sem2 cc0_scratch16 1)
  fwdSend (vS 1) (weS 1) (dv (k0_dev13 c) (k0_dev13_lt c)) (vFy 1) (weFy 1) rfl (sem4 cc0_scratch13 1) (sem2 cc0_scratch20 1)

/-- Block 3's product, sent; block 2's sum, stored and sent on. -/
def ph5 (c : Dev nD) : TP F PUnit := do
  zWaitS (k0_off6 c) (k0_off6_inb c) 1
  mm 1
  zSend (dv (k0_dev14 c) (k0_dev14_lt c)) (k0_off6 c) (k0_off6_inb c) 3
  zWaitR (k0_off9 c) (k0_off9_inb c) 2
  fin (k0_off7 c) (k0_off7_inb c) 2
  outCopy (vS 2) (weS 2) (k0_off8 c 1024#32) (k0_off8_inb c 2) (sem4 cc0_scratch22 2)
  fwdSend (vS 2) (weS 2) (dv (k0_dev15 c) (k0_dev15_lt c)) (vFx 0) (weFx 0) rfl (sem4 cc0_scratch12 2) (sem2 cc0_scratch17 0)
  outSend (vS 2) (weS 2) (dv (k0_dev16 c) (k0_dev16_lt c)) (k0_off8 c 1024#32) (k0_off8_inb c 2) (sem4 cc0_scratch13 2) (sem2 cc0_scratch19 0)

/-- Block 3's sum, stored and sent on. -/
def ph6 (c : Dev nD) : TP F PUnit := do
  zWaitR (k0_off6 c) (k0_off6_inb c) 3
  fin (k0_off10 c) (k0_off10_inb c) 3
  outCopy (vS 3) (weS 3) (k0_off8 c 1536#32) (k0_off8_inb c 3) (sem4 cc0_scratch22 3)
  fwdSend (vS 3) (weS 3) (dv (k0_dev17 c) (k0_dev17_lt c)) (vFx 1) (weFx 1) rfl (sem4 cc0_scratch12 3) (sem2 cc0_scratch17 1)
  outSend (vS 3) (weS 3) (dv (k0_dev18 c) (k0_dev18_lt c)) (k0_off8 c 1536#32) (k0_off8_inb c 3) (sem4 cc0_scratch13 3) (sem2 cc0_scratch19 1)

/-- The forwarded blocks, stored and sent on to the diagonal. -/
def ph7 (c : Dev nD) : TP F PUnit := do
  blkWait (sem2 cc0_scratch17 0) (vS 2) (vFx 0) (weS 2) (weFx 0)
  outCopy (vFx 0) (weFx 0) (k0_off11 c 1024#32) (k0_off11_inb c 2) (sem4 cc0_scratch23 0)
  outSend (vFx 0) (weFx 0) (dv (k0_dev19 c) (k0_dev19_lt c)) (k0_off11 c 1024#32) (k0_off11_inb c 2) (sem2 cc0_scratch15 0) (sem2 cc0_scratch21 0)
  blkWait (sem2 cc0_scratch20 0) (vS 0) (vFy 0) (weS 0) (weFy 0)
  outCopy (vFy 0) (weFy 0) (k0_off12 c 0#32) (k0_off12_inb c 0) (sem4 cc0_scratch23 2)
  outSend (vFy 0) (weFy 0) (dv (k0_dev20 c) (k0_dev20_lt c)) (k0_off12 c 0#32) (k0_off12_inb c 0) (sem2 cc0_scratch14 0) (sem2 cc0_scratch18 0)
  blkWait (sem2 cc0_scratch17 1) (vS 3) (vFx 1) (weS 3) (weFx 1)
  outCopy (vFx 1) (weFx 1) (k0_off11 c 1536#32) (k0_off11_inb c 3) (sem4 cc0_scratch23 1)
  outSend (vFx 1) (weFx 1) (dv (k0_dev21 c) (k0_dev21_lt c)) (k0_off11 c 1536#32) (k0_off11_inb c 3) (sem2 cc0_scratch15 1) (sem2 cc0_scratch21 1)
  blkWait (sem2 cc0_scratch20 1) (vS 1) (vFy 1) (weS 1) (weFy 1)
  outCopy (vFy 1) (weFy 1) (k0_off12 c 512#32) (k0_off12_inb c 1) (sem4 cc0_scratch23 3)
  outSend (vFy 1) (weFy 1) (dv (k0_dev22 c) (k0_dev22_lt c)) (k0_off12 c 512#32) (k0_off12_inb c 1) (sem2 cc0_scratch14 1) (sem2 cc0_scratch18 1)

/-- The last waits on what left this device. -/
def ph8 (c : Dev nD) : TP F PUnit := do
  zWaitS (k0_off9 c) (k0_off9_inb c) 2
  zWaitS (k0_off6 c) (k0_off6_inb c) 3
  blkWait (sem4 cc0_scratch12 0) (o8 c 0) (vS 0) (weO _ _) (weS 0)
  blkWait (sem4 cc0_scratch13 0) (vFy 0) (vS 0) (weFy 0) (weS 0)
  blkWait (sem4 cc0_scratch22 0) (vS 0) (o8 c 0) (weS 0) (weO _ _)
  blkWait (sem4 cc0_scratch12 1) (o8 c 1) (vS 1) (weO _ _) (weS 1)
  blkWait (sem4 cc0_scratch13 1) (vFy 1) (vS 1) (weFy 1) (weS 1)
  blkWait (sem4 cc0_scratch22 1) (vS 1) (o8 c 1) (weS 1) (weO _ _)
  blkWait (sem4 cc0_scratch12 2) (vFx 0) (vS 2) (weFx 0) (weS 2)
  blkWait (sem4 cc0_scratch13 2) (o8 c 2) (vS 2) (weO _ _) (weS 2)
  blkWait (sem4 cc0_scratch22 2) (vS 2) (o8 c 2) (weS 2) (weO _ _)
  blkWait (sem4 cc0_scratch12 3) (vFx 1) (vS 3) (weFx 1) (weS 3)
  blkWait (sem4 cc0_scratch13 3) (o8 c 3) (vS 3) (weO _ _) (weS 3)
  blkWait (sem4 cc0_scratch22 3) (vS 3) (o8 c 3) (weS 3) (weO _ _)

/-- The last waits on the blocks of the other column groups, for forwarded slot `f`. -/
def ph9 (c : Dev nD) (f : Fin 2) : TP F PUnit := do
  blkWait (sem2 cc0_scratch15 f) (o11 c (2 + f.castLE (by decide))) (vFx f) (weO _ _) (weFx f)
  blkWait (sem2 cc0_scratch14 f) (o12 c (f.castLE (by decide))) (vFy f) (weO _ _) (weFy f)
  blkWait (sem4 cc0_scratch23 (f.castLE (by decide))) (vFx f) (o11 c (2 + f.castLE (by decide))) (weFx f) (weO _ _)
  blkWait (sem4 cc0_scratch23 (2 + f.castLE (by decide))) (vFy f) (o12 c (f.castLE (by decide))) (weFy f) (weO _ _)
  blkWait (sem2 cc0_scratch16 f) (vS (f.castLE (by decide))) (o11 c (f.castLE (by decide))) (weS _) (weO _ _)
  blkWait (sem2 cc0_scratch19 f) (vS (f.castLE (by decide))) (o12 c (2 + f.castLE (by decide))) (weS _) (weO _ _)
  blkWait (sem2 cc0_scratch18 f) (vS (f.castLE (by decide))) (o13 c (f.castLE (by decide))) (weS _) (weO _ _)
  blkWait (sem2 cc0_scratch21 f) (vS (f.castLE (by decide))) (o13 c (2 + f.castLE (by decide))) (weS _) (weO _ _)

/-- The body: the phases, at this device. -/
def prog (c : Dev nD) : TP F PUnit := do
  ph1 c
  ph2 c
  ph3 c
  ph4 c
  ph5 c
  ph6 c
  ph7 c
  ph8 c
  ph9 c 0
  ph9 c 1

set_option maxRecDepth 65536 in
set_option maxHeartbeats 4000000 in
/-- The printed body reads its device's number and is then the phases in order. -/
theorem body_eq : cc0_body_skel (F := F) (Memref.whole main_arg0) (Memref.isWhole_whole _) (Memref.whole main_arg1) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9 cc0_scratch10
    cc0_scratch11 cc0_scratch12 cc0_scratch13 cc0_scratch14 cc0_scratch15 cc0_scratch16 cc0_scratch17 cc0_scratch18 cc0_scratch19 cc0_scratch20 cc0_scratch21
    cc0_scratch22 cc0_scratch23 cc0_scratch24 = (do let c ← Prog.lift .deviceId; prog c) := by
  rfl

end Cert.KernelIdeal.Own

end
-- ==== Proof.Common.lean ====
/-
The mesh's neighbours, the parts of the buffers the transfers move, the values every buffer comes to hold,
and that each transfer, load and store carries those values from one to the next.
-/
module

public import proofs.«01_k».proof.Proof.Prog
public import Idealize.ShloMosaic.Lib.ValueLayout
public import Idealize.ShloMosaic.Lib.Pipeline.ValueKit.Geometry

@[expose] public section

noncomputable section

namespace Cert.KernelIdeal.Own

open Cert.KernelIdeal Cert.KernelIdeal.Gen
open Idealize.ShloMosaic Idealize.ShloMosaic.TcCoe Idealize.SL.Sem Idealize.ShloMosaic.ValueIdx

variable {F : FTy → Type} [FloatOps F]

/-! ## The neighbours: device `c` is at `(c / 4, c / 2 % 2, c % 2)` -/

set_option backward.proofsInPublic true in
/-- The neighbour along x. -/
def xN (c : Dev nD) : Dev nD := ⟨(c.val + 4) % 8, Nat.mod_lt _ (by decide)⟩
set_option backward.proofsInPublic true in
/-- The neighbour along y. -/
def yN (c : Dev nD) : Dev nD := ⟨4 * (c.val / 4) + (c.val + 2) % 4, by have : c.val < 8 := c.isLt; show _ < 8; omega⟩
set_option backward.proofsInPublic true in
/-- The neighbour along z. -/
def zN (c : Dev nD) : Dev nD := ⟨2 * (c.val / 2) + (c.val + 1) % 2, by have : c.val < 8 := c.isLt; show _ < 8; omega⟩

/-- The x neighbour's x neighbour is the device. -/
theorem xN_xN (c : Dev nD) : xN (xN c) = c := by revert c; decide
/-- The y neighbour's y neighbour is the device. -/
theorem yN_yN (c : Dev nD) : yN (yN c) = c := by revert c; decide
/-- The z neighbour's z neighbour is the device. -/
theorem zN_zN (c : Dev nD) : zN (zN c) = c := by revert c; decide
/-- The diagonal device is reached either way. -/
theorem xN_yN (c : Dev nD) : xN (yN c) = yN (xN c) := by revert c; decide

/-- The neighbour along z, x or y, by number. -/
def nb (d : Fin 3) (c : Dev nD) : Dev nD := match d with | 0 => zN c | 1 => xN c | 2 => yN c
/-- A neighbour's neighbour in the same direction is the device. -/
theorem nb_nb (d : Fin 3) (c : Dev nD) : nb d (nb d c) = c := by revert d c; decide

/-- The first column of a device's column group: 2048 columns for each `(x, y)`. -/
def gcol (c : Dev nD) : ℕ := 4096 * (c.val / 4) + 2048 * (c.val / 2 % 2)

/-- A column group starts at column 6144 at the latest. -/
theorem gcol_le (c : Dev nD) : gcol c ≤ 6144 := by revert c; decide

/-- The device that address 1 names is the z neighbour. -/
theorem dev1_eq (c : Dev nD) : dv (k0_dev1 c) (k0_dev1_lt c) = zN c := by revert c; decide +kernel
/-- The device that address 2 names is the x neighbour. -/
theorem dev2_eq (c : Dev nD) : dv (k0_dev2 c) (k0_dev2_lt c) = xN c := by revert c; decide +kernel
/-- The device that address 3 names is the y neighbour. -/
theorem dev3_eq (c : Dev nD) : dv (k0_dev3 c) (k0_dev3_lt c) = yN c := by revert c; decide +kernel
/-- The device that address 4 names is the z neighbour. -/
theorem dev4_eq (c : Dev nD) : dv (k0_dev4 c) (k0_dev4_lt c) = zN c := by revert c; decide +kernel
/-- The device that address 5 names is the z neighbour. -/
theorem dev5_eq (c : Dev nD) : dv (k0_dev5 c) (k0_dev5_lt c) = zN c := by revert c; decide +kernel
/-- The device that address 6 names is the z neighbour. -/
theorem dev6_eq (c : Dev nD) : dv (k0_dev6 c) (k0_dev6_lt c) = zN c := by revert c; decide +kernel
/-- The device that address 7 names is the z neighbour. -/
theorem dev7_eq (c : Dev nD) : dv (k0_dev7 c) (k0_dev7_lt c) = zN c := by revert c; decide +kernel
/-- The device that address 8 names is the z neighbour. -/
theorem dev8_eq (c : Dev nD) : dv (k0_dev8 c) (k0_dev8_lt c) = zN c := by revert c; decide +kernel
/-- The device that address 9 names is the x neighbour. -/
theorem dev9_eq (c : Dev nD) : dv (k0_dev9 c) (k0_dev9_lt c) = xN c := by revert c; decide +kernel
/-- The device that address 10 names is the y neighbour. -/
theorem dev10_eq (c : Dev nD) : dv (k0_dev10 c) (k0_dev10_lt c) = yN c := by revert c; decide +kernel
/-- The device that address 11 names is the z neighbour. -/
theorem dev11_eq (c : Dev nD) : dv (k0_dev11 c) (k0_dev11_lt c) = zN c := by revert c; decide +kernel
/-- The device that address 12 names is the x neighbour. -/
theorem dev12_eq (c : Dev nD) : dv (k0_dev12 c) (k0_dev12_lt c) = xN c := by revert c; decide +kernel
/-- The device that address 13 names is the y neighbour. -/
theorem dev13_eq (c : Dev nD) : dv (k0_dev13 c) (k0_dev13_lt c) = yN c := by revert c; decide +kernel
/-- The device that address 14 names is the z neighbour. -/
theorem dev14_eq (c : Dev nD) : dv (k0_dev14 c) (k0_dev14_lt c) = zN c := by revert c; decide +kernel
/-- The device that address 15 names is the x neighbour. -/
theorem dev15_eq (c : Dev nD) : dv (k0_dev15 c) (k0_dev15_lt c) = xN c := by revert c; decide +kernel
/-- The device that address 16 names is the y neighbour. -/
theorem dev16_eq (c : Dev nD) : dv (k0_dev16 c) (k0_dev16_lt c) = yN c := by revert c; decide +kernel
/-- The device that address 17 names is the x neighbour. -/
theorem dev17_eq (c : Dev nD) : dv (k0_dev17 c) (k0_dev17_lt c) = xN c := by revert c; decide +kernel
/-- The device that address 18 names is the y neighbour. -/
theorem dev18_eq (c : Dev nD) : dv (k0_dev18 c) (k0_dev18_lt c) = yN c := by revert c; decide +kernel
/-- The device that address 19 names is the y neighbour. -/
theorem dev19_eq (c : Dev nD) : dv (k0_dev19 c) (k0_dev19_lt c) = yN c := by revert c; decide +kernel
/-- The device that address 20 names is the x neighbour. -/
theorem dev20_eq (c : Dev nD) : dv (k0_dev20 c) (k0_dev20_lt c) = xN c := by revert c; decide +kernel
/-- The device that address 21 names is the y neighbour. -/
theorem dev21_eq (c : Dev nD) : dv (k0_dev21 c) (k0_dev21_lt c) = yN c := by revert c; decide +kernel
/-- The device that address 22 names is the x neighbour. -/
theorem dev22_eq (c : Dev nD) : dv (k0_dev22 c) (k0_dev22_lt c) = xN c := by revert c; decide +kernel

/-! The slices' offsets, in closed form. -/

/-- Offset 1 in closed form. -/
theorem off1_at (c : Dev nD) (b : Fin 4) : k0_off1 c (BitVec.ofNat 32 (512 * b.val)) = ![0, gcol c + 512 * b.val] := by revert c b; decide +kernel
/-- Offset 8 in closed form. -/
theorem off8_at (c : Dev nD) (b : Fin 4) : k0_off8 c (BitVec.ofNat 32 (512 * b.val)) = ![0, gcol c + 512 * b.val] := by revert c b; decide +kernel
/-- Offset 11 in closed form. -/
theorem off11_at (c : Dev nD) (b : Fin 4) : k0_off11 c (BitVec.ofNat 32 (512 * b.val)) = ![0, gcol (xN c) + 512 * b.val] := by revert c b; decide +kernel
/-- Offset 12 in closed form. -/
theorem off12_at (c : Dev nD) (b : Fin 4) : k0_off12 c (BitVec.ofNat 32 (512 * b.val)) = ![0, gcol (yN c) + 512 * b.val] := by revert c b; decide +kernel
/-- Offset 2 in closed form. -/
theorem off2_at (c : Dev nD) : k0_off2 c = ![0, 1024 - 1024 * (c.val % 2), 128 * (0 : Fin 4).val] := by revert c; decide +kernel
/-- Offset 3 in closed form. -/
theorem off3_at (c : Dev nD) : k0_off3 c = ![0, 1024 - 1024 * (c.val % 2), 128 * (1 : Fin 4).val] := by revert c; decide +kernel
/-- Offset 4 in closed form. -/
theorem off4_at (c : Dev nD) : k0_off4 c = ![0, 1024 - 1024 * (c.val % 2), 128 * (2 : Fin 4).val] := by revert c; decide +kernel
/-- Offset 5 in closed form. -/
theorem off5_at (c : Dev nD) : k0_off5 c = ![0, 1024 - 1024 * (c.val % 2), 128 * (3 : Fin 4).val] := by revert c; decide +kernel
/-- Offset 6 in closed form. -/
theorem off6_at (c : Dev nD) : k0_off6 c = ![(1 : Fin 2).val, 1024 - 1024 * (c.val % 2), 0] := by revert c; decide +kernel
/-- Offset 9 in closed form. -/
theorem off9_at (c : Dev nD) : k0_off9 c = ![(0 : Fin 2).val, 1024 - 1024 * (c.val % 2), 0] := by revert c; decide +kernel
/-- Offset 7 in closed form. -/
theorem off7_at (c : Dev nD) : k0_off7 c = ![(0 : Fin 2).val, 1024 * (c.val % 2), 0] := by revert c; decide +kernel
/-- Offset 10 in closed form. -/
theorem off10_at (c : Dev nD) : k0_off10 c = ![(1 : Fin 2).val, 1024 * (c.val % 2), 0] := by revert c; decide +kernel

/-! ## Parts of the buffers -/

/-- The 512 columns of the result from `col`. -/
def oB (col : ℕ) : Finset S1024x8192.Idx := Finset.univ.filter fun i => col ≤ (i 1).val ∧ (i 1).val < col + 512
/-- The 512 columns of `dy` from `col`. -/
def dB (col : ℕ) : Finset S2048x8192.Idx := Finset.univ.filter fun i => col ≤ (i 1).val ∧ (i 1).val < col + 512
/-- A slot of a two-slot buffer of 2048 rows. -/
def s2B (s : ℕ) : Finset S2x2048x512.Idx := Finset.univ.filter fun i => (i 0).val = s
/-- 1024 rows, from `r`, of a slot of it. -/
def hB (s r : ℕ) : Finset S2x2048x512.Idx := Finset.univ.filter fun i => (i 0).val = s ∧ r ≤ (i 1).val ∧ (i 1).val < r + 1024
/-- 128 columns of slot 0 of it. -/
def cK (k : ℕ) : Finset S2x2048x512.Idx := Finset.univ.filter fun i => (i 0).val = 0 ∧ 128 * k ≤ (i 2).val ∧ (i 2).val < 128 * k + 128
/-- 128 columns of 1024 rows, from `r`, of slot 0 of it. -/
def hK (r k : ℕ) : Finset S2x2048x512.Idx :=
  Finset.univ.filter fun i => (i 0).val = 0 ∧ (r ≤ (i 1).val ∧ (i 1).val < r + 1024) ∧ 128 * k ≤ (i 2).val ∧ (i 2).val < 128 * k + 128
/-- A slot of a four-slot buffer of 1024 rows. -/
def s4B (b : ℕ) : Finset S4x1024x512.Idx := Finset.univ.filter fun i => (i 0).val = b
/-- 128 columns of slot 0 of it. -/
def zK (k : ℕ) : Finset S4x1024x512.Idx := Finset.univ.filter fun i => (i 0).val = 0 ∧ 128 * k ≤ (i 2).val ∧ (i 2).val < 128 * k + 128
/-- A slot of a two-slot buffer of 1024 rows. -/
def fB (f : ℕ) : Finset S2x1024x512.Idx := Finset.univ.filter fun i => (i 0).val = f

/-- The elements under a block of the result. -/
theorem set_vOut (off : Fin 2 → ℕ) (h) (col : ℕ) (ho : off = ![0, col]) : (vOut off h).view.set = oB col := by
  subst ho; ext i
  rw [show (vOut ![0, col] h).view.set = (Rect.unit (s := S1024x8192) ![0, col] S1024x512.size h).set from View.set_slice_whole _ _,
    Rect.mem_set_unit, oB, Finset.mem_filter]
  refine ⟨fun H => ⟨Finset.mem_univ _, H 1⟩, fun H a => ?_⟩
  match a with
  | ⟨0, _⟩ => exact ⟨Nat.zero_le _, lt_of_lt_of_eq (i 0).isLt (show 1024 = 0 + 1024 from rfl)⟩
  | ⟨1, _⟩ => exact H.2

/-- The elements under a block of `dy`. -/
theorem set_vDy (off : Fin 2 → ℕ) (h) (col : ℕ) (ho : off = ![0, col]) : (vDy off h).view.set = dB col := by
  subst ho; ext i
  rw [show (vDy ![0, col] h).view.set = (Rect.unit (s := S2048x8192) ![0, col] S2048x512.size h).set from View.set_slice_whole _ _,
    Rect.mem_set_unit, dB, Finset.mem_filter]
  refine ⟨fun H => ⟨Finset.mem_univ _, H 1⟩, fun H a => ?_⟩
  match a with
  | ⟨0, _⟩ => exact ⟨Nat.zero_le _, lt_of_lt_of_eq (i 0).isLt (show 2048 = 0 + 2048 from rfl)⟩
  | ⟨1, _⟩ => exact H.2

/-- Membership in a unit-stride box of a rank-3 buffer. -/
theorem mem_unit3 {A B C : ℕ} (x y z a b c : ℕ) (h : ∀ d, (![x, y, z] : Fin 3 → ℕ) d + (![a, b, c] : Fin 3 → ℕ) d ≤ (⟨3, ![A, B, C]⟩ : Shape).size d)
    (i : (⟨3, ![A, B, C]⟩ : Shape).Idx) :
    i ∈ (Rect.unit (s := ⟨3, ![A, B, C]⟩) ![x, y, z] ![a, b, c] h).set ↔
      (x ≤ (i 0).val ∧ (i 0).val < x + a) ∧ (y ≤ (i 1).val ∧ (i 1).val < y + b) ∧ (z ≤ (i 2).val ∧ (i 2).val < z + c) := by
  rw [Rect.mem_set_unit]
  refine ⟨fun H => ⟨H 0, H 1, H 2⟩, fun H d => ?_⟩
  match d with
  | ⟨0, _⟩ => exact H.1
  | ⟨1, _⟩ => exact H.2.1
  | ⟨2, _⟩ => exact H.2.2

/-- The box of a slot is the slot. -/
theorem rect_slot2 (s : Fin 2) : (Rect.unit (s := S2x2048x512) ![s.val, 0, 0] S1x2048x512.size (inb_dv s)).set = s2B s.val := by
  ext i; rw [mem_unit3, s2B, Finset.mem_filter]
  have h1 : (i 1).val < 2048 := (i 1).isLt
  have h2 : (i 2).val < 512 := (i 2).isLt
  refine ⟨fun H => ⟨Finset.mem_univ _, ?_⟩, fun H => ?_⟩ <;> omega
/-- The box of 1024 rows of a slot is those rows. -/
theorem rect_half (off : Fin 3 → ℕ) (h) (s r : ℕ) (ho : off = ![s, r, 0]) :
    (Rect.unit (s := S2x2048x512) off S1x1024x512.size h).set = hB s r := by
  subst ho; ext i; rw [mem_unit3, hB, Finset.mem_filter]
  have h2 : (i 2).val < 512 := (i 2).isLt
  refine ⟨fun H => ⟨Finset.mem_univ _, ?_⟩, fun H => ?_⟩ <;> omega
/-- The box of 128 columns of 1024 rows is those. -/
theorem rect_halfK (off : Fin 3 → ℕ) (h) (r k : ℕ) (ho : off = ![0, r, 128 * k]) :
    (Rect.unit (s := S2x2048x512) off S1x1024x128.size h).set = hK r k := by
  subst ho; ext i; rw [mem_unit3, hK, Finset.mem_filter]
  refine ⟨fun H => ⟨Finset.mem_univ _, ?_⟩, fun H => ?_⟩ <;> omega
/-- The box of 128 columns of slot 0 is those. -/
theorem rect_cK (k : Fin 4) : (Rect.unit (s := S2x2048x512) ![0, 0, 128 * k.val] S1x2048x128.size (inb_dk k)).set = cK k.val := by
  ext i; rw [mem_unit3, cK, Finset.mem_filter]
  have h1 : (i 1).val < 2048 := (i 1).isLt
  refine ⟨fun H => ⟨Finset.mem_univ _, ?_⟩, fun H => ?_⟩ <;> omega
/-- The box of a slot of a four-slot buffer is the slot. -/
theorem rect_slot4 (b : Fin 4) : (Rect.unit (s := S4x1024x512) ![b.val, 0, 0] S1x1024x512.size (inb_z b)).set = s4B b.val := by
  ext i; rw [mem_unit3, s4B, Finset.mem_filter]
  have h1 : (i 1).val < 1024 := (i 1).isLt
  have h2 : (i 2).val < 512 := (i 2).isLt
  refine ⟨fun H => ⟨Finset.mem_univ _, ?_⟩, fun H => ?_⟩ <;> omega
/-- The box of 128 columns of its slot 0 is those. -/
theorem rect_zK (k : Fin 4) : (Rect.unit (s := S4x1024x512) ![0, 0, 128 * k.val] S1x1024x128.size (inb_zk k)).set = zK k.val := by
  ext i; rw [mem_unit3, zK, Finset.mem_filter]
  have h1 : (i 1).val < 1024 := (i 1).isLt
  refine ⟨fun H => ⟨Finset.mem_univ _, ?_⟩, fun H => ?_⟩ <;> omega
/-- The box of a slot of a forwarding buffer is the slot. -/
theorem rect_f (f : Fin 2) : (Rect.unit (s := S2x1024x512) ![f.val, 0, 0] S1x1024x512.size (inb_f f)).set = fB f.val := by
  ext i; rw [mem_unit3, fB, Finset.mem_filter]
  have h1 : (i 1).val < 1024 := (i 1).isLt
  have h2 : (i 2).val < 512 := (i 2).isLt
  refine ⟨fun H => ⟨Finset.mem_univ _, ?_⟩, fun H => ?_⟩ <;> omega

/-- The elements under a slot of the double buffer. -/
theorem set_vDv (s : Fin 2) : (vDv s).view.set = s2B s.val := (View.set_reshape _ _).trans ((View.set_slice_whole _ _).trans (rect_slot2 s))
/-- The elements under a half of a product. -/
theorem set_vHalf (off : Fin 3 → ℕ) (h) (s r : ℕ) (ho : off = ![s, r, 0]) : (vHalf off h).view.set = hB s r :=
  (View.set_reshape _ _).trans ((View.set_slice_whole _ _).trans (rect_half off h s r ho))
/-- The elements under 128 columns of a half of a product. -/
theorem set_vHalfK (off : Fin 3 → ℕ) (h) (r k : ℕ) (ho : off = ![0, r, 128 * k]) : (vHalfK off h).view.set = hK r k :=
  (View.set_reshape _ _).trans ((View.set_slice_whole _ _).trans (rect_halfK off h r k ho))
/-- The elements under a slot of the buffer of arrivals. -/
theorem set_vZ (b : Fin 4) : (vZ b).view.set = s4B b.val := (View.set_reshape _ _).trans ((View.set_slice_whole _ _).trans (rect_slot4 b))
/-- The elements under 128 columns of its slot 0. -/
theorem set_vZK (k : Fin 4) : (vZK k).view.set = zK k.val := (View.set_reshape _ _).trans ((View.set_slice_whole _ _).trans (rect_zK k))
/-- The elements under a slot of the sums. -/
theorem set_vS (b : Fin 4) : (vS b).view.set = s4B b.val := (View.set_reshape _ _).trans ((View.set_slice_whole _ _).trans (rect_slot4 b))
/-- The elements under a slot of the x forwarding buffer. -/
theorem set_vFx (f : Fin 2) : (vFx f).view.set = fB f.val := (View.set_reshape _ _).trans ((View.set_slice_whole _ _).trans (rect_f f))
/-- The elements under a slot of the y forwarding buffer. -/
theorem set_vFy (f : Fin 2) : (vFy f).view.set = fB f.val := (View.set_reshape _ _).trans ((View.set_slice_whole _ _).trans (rect_f f))

/-! ## Where a view's elements lie -/

/-- Where an element of a block of the result lies. -/
theorem emb_vOut (off : Fin 2 → ℕ) (h) (col : ℕ) (ho : off = ![0, col]) (j : S1024x512.Idx) (hc : col + (j 1).val < 8192) :
    (vOut off h).view.emb j = (ix2 (j 0) ⟨col + (j 1).val, hc⟩ : S1024x8192.Idx) := by
  subst ho
  funext a; apply Fin.ext
  refine (ValueKit.rect_emb_unit_val (s := S1024x8192) ![0, col] S1024x512.size h j a).trans ?_
  match a with
  | ⟨0, _⟩ => exact Nat.zero_add _
  | ⟨1, _⟩ => rfl

/-- Where an element of a block of `dy` lies. -/
theorem emb_vDy (off : Fin 2 → ℕ) (h) (col : ℕ) (ho : off = ![0, col]) (j : S2048x512.Idx) (hc : col + (j 1).val < 8192) :
    (vDy off h).view.emb j = (ix2 (j 0) ⟨col + (j 1).val, hc⟩ : S2048x8192.Idx) := by
  subst ho
  funext a; apply Fin.ext
  refine (ValueKit.rect_emb_unit_val (s := S2048x8192) ![0, col] S2048x512.size h j a).trans ?_
  match a with
  | ⟨0, _⟩ => exact Nat.zero_add _
  | ⟨1, _⟩ => rfl

/-- A two-axis view that drops the leading axis of a unit-stride box, placed in the buffer. -/
theorem emb_unit3 {A B C b c : ℕ} (x y z : ℕ)
    (h : ∀ d, (![x, y, z] : Fin 3 → ℕ) d + (![1, b, c] : Fin 3 → ℕ) d ≤ (⟨3, ![A, B, C]⟩ : Shape).size d)
    (hn : (⟨2, ![b, c]⟩ : Shape).numel = (⟨3, ![1, b, c]⟩ : Shape).numel) (j : (⟨2, ![b, c]⟩ : Shape).Idx)
    (hx : x < A) (hy : y + (j 0).val < B) (hz : z + (j 1).val < C) :
    (Rect.unit (s := ⟨3, ![A, B, C]⟩) ![x, y, z] ![1, b, c] h).emb (Shape.reshapeEquiv hn j)
      = (ix3 ⟨x, hx⟩ ⟨y + (j 0).val, hy⟩ ⟨z + (j 1).val, hz⟩ : (⟨3, ![A, B, C]⟩ : Shape).Idx) := by
  have e : Shape.reshapeEquiv hn j = ix3 (⟨0, Nat.one_pos⟩ : Fin 1) (j 0) (j 1) := by
    conv_lhs => rw [eq_ix2 j]
    exact reshapeEquiv_ix2_1ab hn (j 0) (j 1)
  rw [e]
  funext a; apply Fin.ext
  refine (ValueKit.rect_emb_unit_val (s := ⟨3, ![A, B, C]⟩) ![x, y, z] ![1, b, c] h _ a).trans ?_
  match a with
  | ⟨0, _⟩ => rfl
  | ⟨1, _⟩ => rfl
  | ⟨2, _⟩ => rfl

/-- An element of a unit-stride box, placed in the buffer. -/
theorem emb_box3 {A B C a b c : ℕ} (x y z : ℕ)
    (h : ∀ d, (![x, y, z] : Fin 3 → ℕ) d + (![a, b, c] : Fin 3 → ℕ) d ≤ (⟨3, ![A, B, C]⟩ : Shape).size d)
    (j : (⟨3, ![a, b, c]⟩ : Shape).Idx)
    (hx : x + (j 0).val < A) (hy : y + (j 1).val < B) (hz : z + (j 2).val < C) :
    (Rect.unit (s := ⟨3, ![A, B, C]⟩) ![x, y, z] ![a, b, c] h).emb j
      = (ix3 ⟨x + (j 0).val, hx⟩ ⟨y + (j 1).val, hy⟩ ⟨z + (j 2).val, hz⟩ : (⟨3, ![A, B, C]⟩ : Shape).Idx) := by
  funext d; apply Fin.ext
  refine (ValueKit.rect_emb_unit_val (s := ⟨3, ![A, B, C]⟩) ![x, y, z] ![a, b, c] h j d).trans ?_
  match d with
  | ⟨0, _⟩ => rfl
  | ⟨1, _⟩ => rfl
  | ⟨2, _⟩ => rfl

/-! ## What the buffers come to hold -/

section Contents

variable (m : (ℓ : Loc nD τ sig) → Buf (Elt F) ℓ)

/-- Device `c`'s rows of `x`. -/
def xC (c : Dev nD) : S2048x2048.Idx → Elt F .f32 := m ((c : Thread nD τ).loc main_arg0)
/-- Device `c`'s rows of `dy`. -/
def dyAt (c : Dev nD) : S2048x8192.Idx → Elt F .f32 := m ((c : Thread nD τ).loc main_arg1)

/-- A column of a block is a column of the whole. -/
theorem col_lt (c : Dev nD) (b : Fin 4) (j : ℕ) (hj : j < 512) : gcol c + 512 * b.val + j < 8192 := by
  have := gcol_le c; have := b.isLt; omega

set_option backward.proofsInPublic true in
/-- Block `b` of device `c`'s column group of its rows of `dy`. -/
def dyB (c : Dev nD) (b : Fin 4) (i : Fin 2048) (j : Fin 512) : Elt F .f32 :=
  dyAt m c (ix2 i ⟨gcol c + 512 * b.val + j.val, col_lt c b j.val j.isLt⟩)
/-- The double buffer's slot that holds block `b`. -/
def dvC (c : Dev nD) (b : Fin 4) : S2x2048x512.Idx → Elt F .f32 := fun i => dyB m c b (i 1) (i 2)
set_option backward.proofsInPublic true in
/-- 128 columns of block 0 of `dy`. -/
def dK (c : Dev nD) (k : Fin 4) : S1x2048x128.Idx → Elt F .f32 :=
  fun j => dyB m c 0 (j 1) ⟨128 * k.val + (j 2).val, by have h : (j 2).val < 128 := (j 2).isLt; have := k.isLt; omega⟩
/-- Block `b` of `dy`, as loaded. -/
def dF (c : Dev nD) (b : Fin 4) : S1x2048x512.Idx → Elt F .f32 := fun j => dyB m c b (j 1) (j 2)

set_option backward.proofsInPublic true in
/-- Device `c`'s product for block `b`: `x` transposed times the block; block 0 is computed 128 columns at a time. -/
def PC (c : Dev nD) (b : Fin 4) : S2x2048x512.Idx → Elt F .f32 := fun i =>
  if b = 0 then
    k0_pay1 (xC m c) (dK m c ⟨(i 2).val / 128, by have h : (i 2).val < 512 := (i 2).isLt; omega⟩)
      (ix3 (⟨0, Nat.one_pos⟩ : Fin 1) (i 1) (⟨(i 2).val % 128, Nat.mod_lt _ (by decide)⟩ : Fin 128))
  else k0_pay10 (xC m c) (dF m c b) (ix3 (⟨0, Nat.one_pos⟩ : Fin 1) (i 1) (i 2))

/-- The product does not depend on the slot it is held in. -/
theorem PC_slot (c : Dev nD) (b : Fin 4) (i i' : S2x2048x512.Idx) (h1 : i 1 = i' 1) (h2 : i 2 = i' 2) : PC m c b i = PC m c b i' := by
  simp only [PC, h1, h2]

/-- A row of a device's half is a row of the product. -/
theorem row_lt (c : Dev nD) (j : ℕ) (hj : j < 1024) : 1024 * (c.val % 2) + j < 2048 := by omega

set_option backward.proofsInPublic true in
/-- What lands from the z neighbour: its product's rows of this device's half. -/
def zW (c : Dev nD) : S4x1024x512.Idx → Elt F .f32 := fun i =>
  PC m (zN c) (i 0) (ix3 (⟨0, by decide⟩ : Fin 2) (⟨1024 * (c.val % 2) + (i 1).val, row_lt c _ (i 1).isLt⟩ : Fin 2048) (i 2))

set_option backward.proofsInPublic true in
/-- This device's own half of its product, as loaded. -/
def pH (c : Dev nD) (b : Fin 4) : S1x1024x512.Idx → Elt F .f32 := fun j =>
  PC m c b (ix3 (⟨0, by decide⟩ : Fin 2) (⟨1024 * (c.val % 2) + (j 1).val, row_lt c _ (j 1).isLt⟩ : Fin 2048) (j 2))
/-- What landed for block `b`, as loaded. -/
def zH (c : Dev nD) (b : Fin 4) : S1x1024x512.Idx → Elt F .f32 := fun j => zW m c (ix3 b (j 1) (j 2))
/-- Device `c`'s finished sums: its own half and the z neighbour's, added. -/
def sC (c : Dev nD) : S4x1024x512.Idx → Elt F .f32 := fun i =>
  k0_pay11 (pH m c (i 0)) (zH m c (i 0)) (ix3 (⟨0, Nat.one_pos⟩ : Fin 1) (i 1) (i 2))

set_option backward.proofsInPublic true in
/-- The device of `c`'s plane whose column group is number `q`. -/
def grp (c : Dev nD) (q : Fin 4) : Dev nD := ⟨2 * q.val + c.val % 2, by have := q.isLt; show _ < 8; omega⟩

set_option backward.proofsInPublic true in
/-- Device `c`'s result: each column group from the device of its plane that summed it. -/
def outC (c : Dev nD) : S1024x8192.Idx → Elt F .f32 := fun i =>
  sC m (grp c ⟨(i 1).val / 2048, by have h : (i 1).val < 8192 := (i 1).isLt; omega⟩)
    (ix3 (⟨(i 1).val % 2048 / 512, by omega⟩ : Fin 4) (i 0) (⟨(i 1).val % 512, Nat.mod_lt _ (by decide)⟩ : Fin 512))
set_option backward.proofsInPublic true in
/-- What the x neighbour forwards: its sums of blocks 2 and 3. -/
def fxC (c : Dev nD) : S2x1024x512.Idx → Elt F .f32 := fun i =>
  sC m (xN c) (ix3 (⟨2 + (i 0).val, by have h : (i 0).val < 2 := (i 0).isLt; omega⟩ : Fin 4) (i 1) (i 2))
set_option backward.proofsInPublic true in
/-- What the y neighbour forwards: its sums of blocks 0 and 1. -/
def fyC (c : Dev nD) : S2x1024x512.Idx → Elt F .f32 := fun i =>
  sC m (yN c) (ix3 (⟨(i 0).val, by have h : (i 0).val < 2 := (i 0).isLt; omega⟩ : Fin 4) (i 1) (i 2))

/-- The result at column `gcol n' + 512 b + j` is the sum device `n'` made, for any device of the same plane. -/
theorem outC_at (n n' : Dev nD) (hz : n.val % 2 = n'.val % 2) (b : Fin 4) (i : Fin 1024) (j : Fin 512) (h : gcol n' + 512 * b.val + j.val < 8192) :
    outC m n (ix2 i ⟨gcol n' + 512 * b.val + j.val, h⟩) = sC m n' (ix3 b i j) := by
  have hn : n'.val < 8 := n'.isLt
  have hb := b.isLt
  have hj := j.isLt
  have e1 : grp n ⟨(gcol n' + 512 * b.val + j.val) / 2048, by omega⟩ = n' := by
    apply Fin.ext
    show 2 * ((gcol n' + 512 * b.val + j.val) / 2048) + n.val % 2 = n'.val
    unfold gcol; omega
  have e2 : (⟨(gcol n' + 512 * b.val + j.val) % 2048 / 512, by omega⟩ : Fin 4) = b := by
    apply Fin.ext; show (gcol n' + 512 * b.val + j.val) % 2048 / 512 = b.val; unfold gcol; omega
  have e3 : (⟨(gcol n' + 512 * b.val + j.val) % 512, Nat.mod_lt _ (by decide)⟩ : Fin 512) = j := by
    apply Fin.ext; show (gcol n' + 512 * b.val + j.val) % 512 = j.val; unfold gcol; omega
  show sC m (grp n ⟨(gcol n' + 512 * b.val + j.val) / 2048, _⟩) (ix3 (⟨(gcol n' + 512 * b.val + j.val) % 2048 / 512, _⟩ : Fin 4) i
    (⟨(gcol n' + 512 * b.val + j.val) % 512, _⟩ : Fin 512)) = _
  rw [e1, e2, e3]

end Contents

end Cert.KernelIdeal.Own

end
-- ==== Proof.Facts.lean ====
/-
Each transfer, load and store carries the named values from one buffer to the next.
-/
module

public import proofs.«01_k».proof.Proof.Common

@[expose] public section

noncomputable section

namespace Cert.KernelIdeal.Own

open Cert.KernelIdeal Cert.KernelIdeal.Gen
open Idealize.ShloMosaic Idealize.ShloMosaic.TcCoe Idealize.SL.Sem Idealize.ShloMosaic.ValueIdx

variable {F : FTy → Type} [FloatOps F]

/-- Writing through a view what `g` reads there leaves `g` on the view's elements. -/
theorem write_agree {sp : Space} {s : Shape} {e : EltTy} (v : View sig .tc sp s e) (fd g : v.ty.Contents (Elt F)) (w : s.Idx → Elt F e)
    (h : ∀ j, w j = v.read (Elt F) g j) : ∀ i ∈ v.set, v.write (Elt F) fd w Finset.univ i = g i := by
  intro i hi
  obtain ⟨j, -, rfl⟩ := Finset.mem_map.mp hi
  rw [View.write_emb_of_mem _ _ (Finset.mem_univ j), h j, View.read_apply, cast_cast, cast_eq]

section

variable (m : (ℓ : Loc nD τ sig) → Buf (Elt F) ℓ)

/-- A slot of the double buffer reads the block it was filled with. -/
theorem read_dy (c : Dev nD) (b : Fin 4) (s : Fin 2) (off : Fin 2 → ℕ) (h) (ho : off = ![0, gcol c + 512 * b.val]) (j : S2048x512.Idx) :
    (vDy off h).view.read (Elt F) (dyAt m c) j = (vDv s).view.read (Elt F) (dvC m c b) j := by
  show dyAt m c ((vDy off h).view.emb j) = dvC m c b ((vDv s).view.emb j)
  rw [emb_vDy off h _ ho j (col_lt c b _ (j 1).isLt)]
  have e : (vDv s).view.emb j = (ix3 (⟨s.val, s.isLt⟩ : Fin 2) (⟨0 + (j 0).val, by rw [Nat.zero_add]; exact (j 0).isLt⟩ : Fin 2048) (⟨0 + (j 1).val, by rw [Nat.zero_add]; exact (j 1).isLt⟩ : Fin 512) : S2x2048x512.Idx) :=
    emb_unit3 s.val 0 0 (inb_dv s) _ j _ _ _
  rw [e]
  show _ = dyB m c b _ _
  unfold dyB
  congr 1
  funext a; apply Fin.ext
  match a with
  | ⟨0, _⟩ => exact (Nat.zero_add _).symm
  | ⟨1, _⟩ => exact congrArg (gcol c + 512 * b.val + ·) (Nat.zero_add _).symm

/-- The z neighbour receives the columns of the half it sums. -/
theorem read_zk (c : Dev nD) (k : Fin 4) (off : Fin 3 → ℕ) (h) (ho : off = ![0, 1024 - 1024 * (c.val % 2), 128 * k.val]) (j : S1024x128.Idx) :
    (vHalfK off h).view.read (Elt F) (PC m c 0) j = (vZK k).view.read (Elt F) (zW m (zN c)) j := by
  subst ho
  have hj0 : (j 0).val < 1024 := (j 0).isLt
  have hj1 : (j 1).val < 128 := (j 1).isLt
  have hk := k.isLt
  show PC m c 0 ((vHalfK _ h).view.emb j) = zW m (zN c) ((vZK k).view.emb j)
  have e1 : (vHalfK ![0, 1024 - 1024 * (c.val % 2), 128 * k.val] h).view.emb j = (ix3 (⟨0, by omega⟩ : Fin 2) (⟨1024 - 1024 * (c.val % 2) + (j 0).val, by omega⟩ : Fin 2048) (⟨128 * k.val + (j 1).val, by omega⟩ : Fin 512) : S2x2048x512.Idx) :=
    emb_unit3 0 (1024 - 1024 * (c.val % 2)) (128 * k.val) h _ j _ _ _
  have e2 : (vZK k).view.emb j = (ix3 (⟨0, by omega⟩ : Fin 4) (⟨0 + (j 0).val, by omega⟩ : Fin 1024) (⟨128 * k.val + (j 1).val, by omega⟩ : Fin 512) : S4x1024x512.Idx) :=
    emb_unit3 0 0 (128 * k.val) (inb_zk k) _ j _ _ _
  rw [e1, e2]
  show _ = PC m (zN (zN c)) 0 _
  rw [zN_zN]
  refine PC_slot m c 0 _ _ (Fin.ext ?_) rfl
  show 1024 - 1024 * (c.val % 2) + (j 0).val = 1024 * ((2 * (c.val / 2) + (c.val + 1) % 2) % 2) + (0 + (j 0).val)
  omega

/-- The z neighbour receives the half it sums. -/
theorem read_z (c : Dev nD) (b : Fin 4) (s : Fin 2) (off : Fin 3 → ℕ) (h) (ho : off = ![s.val, 1024 - 1024 * (c.val % 2), 0]) (j : S1024x512.Idx) :
    (vHalf off h).view.read (Elt F) (PC m c b) j = (vZ b).view.read (Elt F) (zW m (zN c)) j := by
  subst ho
  have hj0 : (j 0).val < 1024 := (j 0).isLt
  have hj1 : (j 1).val < 512 := (j 1).isLt
  show PC m c b ((vHalf _ h).view.emb j) = zW m (zN c) ((vZ b).view.emb j)
  have e1 : (vHalf ![s.val, 1024 - 1024 * (c.val % 2), 0] h).view.emb j = (ix3 (⟨s.val, s.isLt⟩ : Fin 2) (⟨1024 - 1024 * (c.val % 2) + (j 0).val, by omega⟩ : Fin 2048) (⟨0 + (j 1).val, by omega⟩ : Fin 512) : S2x2048x512.Idx) :=
    emb_unit3 s.val (1024 - 1024 * (c.val % 2)) 0 h _ j _ _ _
  have e2 : (vZ b).view.emb j = (ix3 (⟨b.val, b.isLt⟩ : Fin 4) (⟨0 + (j 0).val, by omega⟩ : Fin 1024) (⟨0 + (j 1).val, by omega⟩ : Fin 512) : S4x1024x512.Idx) :=
    emb_unit3 b.val 0 0 (inb_z b) _ j _ _ _
  rw [e1, e2]
  show _ = PC m (zN (zN c)) b _
  rw [zN_zN]
  refine PC_slot m c b _ _ (Fin.ext ?_) rfl
  show 1024 - 1024 * (c.val % 2) + (j 0).val = 1024 * ((2 * (c.val / 2) + (c.val + 1) % 2) % 2) + (0 + (j 0).val)
  omega

/-- A slot of the sums, read. -/
theorem read_vS (c : Dev nD) (b : Fin 4) (j : S1024x512.Idx) : (vS b).view.read (Elt F) (sC m c) j = sC m c (ix3 b (j 0) (j 1)) := by
  have hj0 : (j 0).val < 1024 := (j 0).isLt
  have hj1 : (j 1).val < 512 := (j 1).isLt
  show sC m c ((vS b).view.emb j) = _
  have e2 : (vS b).view.emb j = (ix3 (⟨b.val, b.isLt⟩ : Fin 4) (⟨0 + (j 0).val, by omega⟩ : Fin 1024) (⟨0 + (j 1).val, by omega⟩ : Fin 512) : S4x1024x512.Idx) :=
    emb_unit3 b.val 0 0 (inb_z b) _ j _ _ _
  rw [e2]
  congr 1
  funext a; apply Fin.ext
  match a with
  | ⟨0, _⟩ => rfl
  | ⟨1, _⟩ => exact Nat.zero_add _
  | ⟨2, _⟩ => exact Nat.zero_add _

/-- A block of the result, at the columns device `n'` of the same plane sums, read. -/
theorem read_vOut (n n' : Dev nD) (hz : n.val % 2 = n'.val % 2) (b : Fin 4) (off : Fin 2 → ℕ) (h) (ho : off = ![0, gcol n' + 512 * b.val]) (j : S1024x512.Idx) :
    (vOut off h).view.read (Elt F) (outC m n) j = sC m n' (ix3 b (j 0) (j 1)) := by
  show outC m n ((vOut off h).view.emb j) = _
  rw [emb_vOut off h _ ho j (col_lt n' b _ (j 1).isLt)]
  exact outC_at m n n' hz b (j 0) (j 1) _

/-- A slot of what the x neighbour forwarded, read. -/
theorem read_vFx (c : Dev nD) (f : Fin 2) (j : S1024x512.Idx) :
    (vFx f).view.read (Elt F) (fxC m c) j = sC m (xN c) (ix3 (⟨2 + f.val, by omega⟩ : Fin 4) (j 0) (j 1)) := by
  have hj0 : (j 0).val < 1024 := (j 0).isLt
  have hj1 : (j 1).val < 512 := (j 1).isLt
  show fxC m c ((vFx f).view.emb j) = _
  have e2 : (vFx f).view.emb j = (ix3 (⟨f.val, f.isLt⟩ : Fin 2) (⟨0 + (j 0).val, by omega⟩ : Fin 1024) (⟨0 + (j 1).val, by omega⟩ : Fin 512) : S2x1024x512.Idx) :=
    emb_unit3 f.val 0 0 (inb_f f) _ j _ _ _
  rw [e2]
  show sC m (xN c) _ = _
  congr 1
  funext a; apply Fin.ext
  match a with
  | ⟨0, _⟩ => rfl
  | ⟨1, _⟩ => exact Nat.zero_add _
  | ⟨2, _⟩ => exact Nat.zero_add _

/-- A slot of what the y neighbour forwarded, read. -/
theorem read_vFy (c : Dev nD) (f : Fin 2) (j : S1024x512.Idx) :
    (vFy f).view.read (Elt F) (fyC m c) j = sC m (yN c) (ix3 (⟨f.val, by omega⟩ : Fin 4) (j 0) (j 1)) := by
  have hj0 : (j 0).val < 1024 := (j 0).isLt
  have hj1 : (j 1).val < 512 := (j 1).isLt
  show fyC m c ((vFy f).view.emb j) = _
  have e2 : (vFy f).view.emb j = (ix3 (⟨f.val, f.isLt⟩ : Fin 2) (⟨0 + (j 0).val, by omega⟩ : Fin 1024) (⟨0 + (j 1).val, by omega⟩ : Fin 512) : S2x1024x512.Idx) :=
    emb_unit3 f.val 0 0 (inb_f f) _ j _ _ _
  rw [e2]
  show sC m (yN c) _ = _
  congr 1
  funext a; apply Fin.ext
  match a with
  | ⟨0, _⟩ => rfl
  | ⟨1, _⟩ => exact Nat.zero_add _
  | ⟨2, _⟩ => exact Nat.zero_add _

/-! ## Loads and stores -/

/-- `x` read whole. -/
theorem load_x (c : Dev nD) : (Memref.whole cc0_scratch0).view.readAt (Elt F) (Rect.unit (s := S2048x2048) ![0, 0] S2048x2048.size inb_S2048x2048_S2048x2048_0_0).toLoadRect (xC m c) = xC m c := by
  funext j
  show xC m c ((Rect.unit (s := S2048x2048) ![0, 0] S2048x2048.size inb_S2048x2048_S2048x2048_0_0).emb j) = _
  congr 1
  funext a; apply Fin.ext
  refine (ValueKit.rect_emb_unit_val (s := S2048x2048) ![0, 0] S2048x2048.size _ j a).trans ?_
  match a with
  | ⟨0, _⟩ => exact Nat.zero_add _
  | ⟨1, _⟩ => exact Nat.zero_add _

/-- 128 columns of the double buffer's slot 0, read. -/
theorem load_dK (c : Dev nD) (k : Fin 4) : (Memref.whole cc0_scratch1).view.readAt (Elt F) (Rect.unit (s := S2x2048x512) ![0, 0, 128 * k.val] S1x2048x128.size (inb_dk k)).toLoadRect (dvC m c 0) = dK m c k := by
  funext j
  have hj0 : (j 0).val < 1 := (j 0).isLt
  have hj1 : (j 1).val < 2048 := (j 1).isLt
  have hj2 : (j 2).val < 128 := (j 2).isLt
  have hk := k.isLt
  show dvC m c 0 ((Rect.unit (s := S2x2048x512) ![0, 0, 128 * k.val] S1x2048x128.size (inb_dk k)).emb j) = _
  have e : (Rect.unit (s := S2x2048x512) ![0, 0, 128 * k.val] S1x2048x128.size (inb_dk k)).emb j = (ix3 (⟨0 + (j 0).val, by omega⟩ : Fin 2) (⟨0 + (j 1).val, by omega⟩ : Fin 2048) (⟨128 * k.val + (j 2).val, by omega⟩ : Fin 512) : S2x2048x512.Idx) :=
    emb_box3 0 0 (128 * k.val) (inb_dk k) j _ _ _
  rw [e]
  show dyB m c 0 _ _ = dyB m c 0 _ _
  congr 1
  exact Fin.ext (Nat.zero_add _)

/-- A slot of the double buffer, read. -/
theorem load_dF (c : Dev nD) (b : Fin 4) (s : Fin 2) : (Memref.whole cc0_scratch1).view.readAt (Elt F) (Rect.unit (s := S2x2048x512) ![s.val, 0, 0] S1x2048x512.size (inb_dv s)).toLoadRect (dvC m c b) = dF m c b := by
  funext j
  have hs := s.isLt
  have hj0 : (j 0).val < 1 := (j 0).isLt
  have hj1 : (j 1).val < 2048 := (j 1).isLt
  have hj2 : (j 2).val < 512 := (j 2).isLt
  show dvC m c b ((Rect.unit (s := S2x2048x512) ![s.val, 0, 0] S1x2048x512.size (inb_dv s)).emb j) = _
  have e : (Rect.unit (s := S2x2048x512) ![s.val, 0, 0] S1x2048x512.size (inb_dv s)).emb j = (ix3 (⟨s.val + (j 0).val, by omega⟩ : Fin 2) (⟨0 + (j 1).val, by omega⟩ : Fin 2048) (⟨0 + (j 2).val, by omega⟩ : Fin 512) : S2x2048x512.Idx) :=
    emb_box3 s.val 0 0 (inb_dv s) j _ _ _
  rw [e]
  show dyB m c b _ _ = dyB m c b _ _
  congr 1
  · exact Fin.ext (Nat.zero_add _)
  · exact Fin.ext (Nat.zero_add _)

/-- The 128 columns of block 0's product stored are the product's. -/
theorem store_mmK (c : Dev nD) (k : Fin 4) (fd : S2x2048x512.Idx → Elt F .f32) : ∀ i ∈ cK k.val,
    ((Memref.whole cc0_scratch2).access (Rect.unit (s := S2x2048x512) ![0, 0, 128 * k.val] S1x2048x128.size (inb_dk k))).write (Elt F) fd (k0_pay1 (xC m c) (dK m c k)) Finset.univ i = PC m c 0 i := by
  intro i hi
  refine write_agree ((Memref.whole cc0_scratch2).access (Rect.unit (s := S2x2048x512) ![0, 0, 128 * k.val] S1x2048x128.size (inb_dk k))) fd (PC m c 0) _ (fun j => ?_) i
    (by rw [show ((Memref.whole cc0_scratch2).access (Rect.unit (s := S2x2048x512) ![0, 0, 128 * k.val] S1x2048x128.size (inb_dk k))).set = _ from (View.set_slice_whole _ _).trans (rect_cK k)]; exact hi)
  have hj0 : (j 0).val < 1 := (j 0).isLt
  have hj1 : (j 1).val < 2048 := (j 1).isLt
  have hj2 : (j 2).val < 128 := (j 2).isLt
  have hk := k.isLt
  show _ = PC m c 0 ((Rect.unit (s := S2x2048x512) ![0, 0, 128 * k.val] S1x2048x128.size (inb_dk k)).emb j)
  have e : (Rect.unit (s := S2x2048x512) ![0, 0, 128 * k.val] S1x2048x128.size (inb_dk k)).emb j = (ix3 (⟨0 + (j 0).val, by omega⟩ : Fin 2) (⟨0 + (j 1).val, by omega⟩ : Fin 2048) (⟨128 * k.val + (j 2).val, by omega⟩ : Fin 512) : S2x2048x512.Idx) :=
    emb_box3 0 0 (128 * k.val) (inb_dk k) j _ _ _
  rw [e]
  unfold PC
  rw [if_pos rfl]
  have ek : (⟨(128 * k.val + (j 2).val) / 128, by omega⟩ : Fin 4) = k := Fin.ext (by show (128 * k.val + (j 2).val) / 128 = k.val; omega)
  show _ = k0_pay1 (xC m c) (dK m c ⟨(128 * k.val + (j 2).val) / 128, _⟩) _
  rw [ek]
  congr 1
  funext a; apply Fin.ext
  match a with
  | ⟨0, _⟩ => show (j 0).val = 0; omega
  | ⟨1, _⟩ => exact (Nat.zero_add _).symm
  | ⟨2, _⟩ => show (j 2).val = (128 * k.val + (j 2).val) % 128; omega

/-- The product of a later block stored is the product. -/
theorem store_mm (c : Dev nD) (b : Fin 4) (hb : b ≠ 0) (s : Fin 2) (fd : S2x2048x512.Idx → Elt F .f32) : ∀ i ∈ s2B s.val,
    ((Memref.whole cc0_scratch2).access (Rect.unit (s := S2x2048x512) ![s.val, 0, 0] S1x2048x512.size (inb_dv s))).write (Elt F) fd (k0_pay10 (xC m c) (dF m c b)) Finset.univ i = PC m c b i := by
  intro i hi
  refine write_agree ((Memref.whole cc0_scratch2).access (Rect.unit (s := S2x2048x512) ![s.val, 0, 0] S1x2048x512.size (inb_dv s))) fd (PC m c b) _ (fun j => ?_) i
    (by rw [show ((Memref.whole cc0_scratch2).access (Rect.unit (s := S2x2048x512) ![s.val, 0, 0] S1x2048x512.size (inb_dv s))).set = _ from (View.set_slice_whole _ _).trans (rect_slot2 s)]; exact hi)
  have hs := s.isLt
  have hj0 : (j 0).val < 1 := (j 0).isLt
  have hj1 : (j 1).val < 2048 := (j 1).isLt
  have hj2 : (j 2).val < 512 := (j 2).isLt
  show _ = PC m c b ((Rect.unit (s := S2x2048x512) ![s.val, 0, 0] S1x2048x512.size (inb_dv s)).emb j)
  have e : (Rect.unit (s := S2x2048x512) ![s.val, 0, 0] S1x2048x512.size (inb_dv s)).emb j = (ix3 (⟨s.val + (j 0).val, by omega⟩ : Fin 2) (⟨0 + (j 1).val, by omega⟩ : Fin 2048) (⟨0 + (j 2).val, by omega⟩ : Fin 512) : S2x2048x512.Idx) :=
    emb_box3 s.val 0 0 (inb_dv s) j _ _ _
  rw [e]
  unfold PC
  rw [if_neg hb]
  congr 1
  funext a; apply Fin.ext
  match a with
  | ⟨0, _⟩ => show (j 0).val = 0; omega
  | ⟨1, _⟩ => exact (Nat.zero_add _).symm
  | ⟨2, _⟩ => exact (Nat.zero_add _).symm

/-- This device's half of its product, read. -/
theorem load_pH (c : Dev nD) (b : Fin 4) (s : Fin 2) (off : Fin 3 → ℕ) (h) (ho : off = ![s.val, 1024 * (c.val % 2), 0]) :
    (Memref.whole cc0_scratch2).view.readAt (Elt F) (Rect.unit (s := S2x2048x512) off S1x1024x512.size h).toLoadRect (PC m c b) = pH m c b := by
  subst ho
  funext j
  have hs := s.isLt
  have hj0 : (j 0).val < 1 := (j 0).isLt
  have hj1 : (j 1).val < 1024 := (j 1).isLt
  have hj2 : (j 2).val < 512 := (j 2).isLt
  show PC m c b ((Rect.unit (s := S2x2048x512) ![s.val, 1024 * (c.val % 2), 0] S1x1024x512.size h).emb j) = _
  have e : (Rect.unit (s := S2x2048x512) ![s.val, 1024 * (c.val % 2), 0] S1x1024x512.size h).emb j = (ix3 (⟨s.val + (j 0).val, by omega⟩ : Fin 2) (⟨1024 * (c.val % 2) + (j 1).val, by omega⟩ : Fin 2048) (⟨0 + (j 2).val, by omega⟩ : Fin 512) : S2x2048x512.Idx) :=
    emb_box3 s.val (1024 * (c.val % 2)) 0 h j _ _ _
  rw [e]
  exact PC_slot m c b _ _ rfl (Fin.ext (Nat.zero_add _))

/-- What landed for block `b`, read. -/
theorem load_zH (c : Dev nD) (b : Fin 4) :
    (Memref.whole cc0_scratch3).view.readAt (Elt F) (Rect.unit (s := S4x1024x512) ![b.val, 0, 0] S1x1024x512.size (inb_z b)).toLoadRect (zW m c) = zH m c b := by
  funext j
  have hb := b.isLt
  have hj0 : (j 0).val < 1 := (j 0).isLt
  have hj1 : (j 1).val < 1024 := (j 1).isLt
  have hj2 : (j 2).val < 512 := (j 2).isLt
  show zW m c ((Rect.unit (s := S4x1024x512) ![b.val, 0, 0] S1x1024x512.size (inb_z b)).emb j) = zW m c _
  congr 1
  refine (emb_box3 b.val 0 0 (inb_z b) j (by omega) (by omega) (by omega)).trans ?_
  funext a; apply Fin.ext
  match a with
  | ⟨0, _⟩ => show b.val + (j 0).val = b.val; omega
  | ⟨1, _⟩ => exact Nat.zero_add _
  | ⟨2, _⟩ => exact Nat.zero_add _

/-- The sum stored is the finished sum. -/
theorem store_fin (c : Dev nD) (b : Fin 4) (fd : S4x1024x512.Idx → Elt F .f32) : ∀ i ∈ s4B b.val,
    ((Memref.whole cc0_scratch4).access (Rect.unit (s := S4x1024x512) ![b.val, 0, 0] S1x1024x512.size (inb_z b))).write (Elt F) fd (k0_pay11 (pH m c b) (zH m c b)) Finset.univ i = sC m c i := by
  intro i hi
  refine write_agree ((Memref.whole cc0_scratch4).access (Rect.unit (s := S4x1024x512) ![b.val, 0, 0] S1x1024x512.size (inb_z b))) fd (sC m c) _ (fun j => ?_) i
    (by rw [show ((Memref.whole cc0_scratch4).access (Rect.unit (s := S4x1024x512) ![b.val, 0, 0] S1x1024x512.size (inb_z b))).set = _ from (View.set_slice_whole _ _).trans (rect_slot4 b)]; exact hi)
  have hb := b.isLt
  have hj0 : (j 0).val < 1 := (j 0).isLt
  have hj1 : (j 1).val < 1024 := (j 1).isLt
  have hj2 : (j 2).val < 512 := (j 2).isLt
  show _ = sC m c ((Rect.unit (s := S4x1024x512) ![b.val, 0, 0] S1x1024x512.size (inb_z b)).emb j)
  have e : (Rect.unit (s := S4x1024x512) ![b.val, 0, 0] S1x1024x512.size (inb_z b)).emb j = (ix3 (⟨b.val + (j 0).val, by omega⟩ : Fin 4) (⟨0 + (j 1).val, by omega⟩ : Fin 1024) (⟨0 + (j 2).val, by omega⟩ : Fin 512) : S4x1024x512.Idx) :=
    emb_box3 b.val 0 0 (inb_z b) j _ _ _
  rw [e]
  have eb : (⟨b.val + (j 0).val, by omega⟩ : Fin 4) = b := Fin.ext (by show b.val + (j 0).val = b.val; omega)
  show _ = k0_pay11 (pH m c ⟨b.val + (j 0).val, _⟩) (zH m c ⟨b.val + (j 0).val, _⟩) _
  rw [eb]
  congr 1
  funext a; apply Fin.ext
  match a with
  | ⟨0, _⟩ => show (j 0).val = 0; omega
  | ⟨1, _⟩ => exact (Nat.zero_add _).symm
  | ⟨2, _⟩ => exact (Nat.zero_add _).symm

end

end Cert.KernelIdeal.Own

end
-- ==== Proof.Sched.lean ====
/-
The protocol: which rounds each semaphore of a device goes through, what each hands its waiter, what a device
owes its neighbours, and in what order the semaphores may be waited for.
-/
module

public import proofs.«01_k».proof.Proof.Facts
public import Idealize.ShloMosaic.Lib.Pipeline.Launch
public import Idealize.ShloMosaic.Lib.Pipeline.Kit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The state of the protocol's rounds. -/
abbrev UB : Type := URounds (GSem nD τ sig) (Fin 3)
/-- That beside the launch's own. -/
abbrev UU : Type := UR sig nD τ × UB

local notation "𝕄" => MT nD τ sig Unit (Elt F) ℕ UU ℕ

/-- The launch's own state within the whole. -/
abbrev EP : Emb (UR sig nD τ) (MT nD τ sig Unit (Elt F) ℕ UU ℕ) := embL
/-- The protocol's state within the whole. -/
abbrev ER : Emb UB (MT nD τ sig Unit (Elt F) ℕ UU ℕ) := embR

/-! ## Parts of a device's buffers, held at a share with contents -/

/-- A part of device `c`'s memory: its rows of `x`. -/
abbrev Px (c : Dev nD) (S : Finset S2048x2048.Idx) (q : PosShare TreeShare) (f : S2048x2048.Idx → Elt F .f32) : sProp 𝕄 := ((c : Thread nD τ).loc main_arg0) ↦[S]{q} f
/-- A part of device `c`'s memory: its rows of `dy`. -/
abbrev Pd (c : Dev nD) (S : Finset S2048x8192.Idx) (q : PosShare TreeShare) (f : S2048x8192.Idx → Elt F .f32) : sProp 𝕄 := ((c : Thread nD τ).loc main_arg1) ↦[S]{q} f
/-- A part of device `c`'s memory: its result's memory. -/
abbrev Po (c : Dev nD) (S : Finset S1024x8192.Idx) (q : PosShare TreeShare) (f : S1024x8192.Idx → Elt F .f32) : sProp 𝕄 := ((c : Thread nD τ).loc main_v1) ↦[S]{q} f
/-- A part of device `c`'s memory: the copy of `x`. -/
abbrev Pxv (c : Dev nD) (S : Finset S2048x2048.Idx) (q : PosShare TreeShare) (f : S2048x2048.Idx → Elt F .f32) : sProp 𝕄 := ((c : Thread nD τ).loc cc0_scratch0) ↦[S]{q} f
/-- A part of device `c`'s memory: the double buffer of `dy`. -/
abbrev Pdv (c : Dev nD) (S : Finset S2x2048x512.Idx) (q : PosShare TreeShare) (f : S2x2048x512.Idx → Elt F .f32) : sProp 𝕄 := ((c : Thread nD τ).loc cc0_scratch1) ↦[S]{q} f
/-- A part of device `c`'s memory: the partial products. -/
abbrev Pp (c : Dev nD) (S : Finset S2x2048x512.Idx) (q : PosShare TreeShare) (f : S2x2048x512.Idx → Elt F .f32) : sProp 𝕄 := ((c : Thread nD τ).loc cc0_scratch2) ↦[S]{q} f
/-- A part of device `c`'s memory: what the z neighbour sends. -/
abbrev Pz (c : Dev nD) (S : Finset S4x1024x512.Idx) (q : PosShare TreeShare) (f : S4x1024x512.Idx → Elt F .f32) : sProp 𝕄 := ((c : Thread nD τ).loc cc0_scratch3) ↦[S]{q} f
/-- A part of device `c`'s memory: the finished sums. -/
abbrev Ps (c : Dev nD) (S : Finset S4x1024x512.Idx) (q : PosShare TreeShare) (f : S4x1024x512.Idx → Elt F .f32) : sProp 𝕄 := ((c : Thread nD τ).loc cc0_scratch4) ↦[S]{q} f
/-- A part of device `c`'s memory: what the x neighbour sends to be forwarded. -/
abbrev Pfx (c : Dev nD) (S : Finset S2x1024x512.Idx) (q : PosShare TreeShare) (f : S2x1024x512.Idx → Elt F .f32) : sProp 𝕄 := ((c : Thread nD τ).loc cc0_scratch5) ↦[S]{q} f
/-- A part of device `c`'s memory: what the y neighbour sends to be forwarded. -/
abbrev Pfy (c : Dev nD) (S : Finset S2x1024x512.Idx) (q : PosShare TreeShare) (f : S2x1024x512.Idx → Elt F .f32) : sProp 𝕄 := ((c : Thread nD τ).loc cc0_scratch6) ↦[S]{q} f

/-- The shares of a sum's slot that its store, its transfer along x and its transfer along y read. -/
abbrev q0 : PosShare TreeShare := fullShare.left
/-- The share that the transfer along x reads. -/
abbrev q1 : PosShare TreeShare := fullShare.right.left
/-- The share that the transfer along y reads. -/
abbrev q2 : PosShare TreeShare := fullShare.right.right

/-! ## The DMA semaphores, by what they count -/

/-- What a DMA semaphore counts. -/
inductive Kind
  | x | dy (s : Fin 2) | zs (b : Fin 4) | zr (b : Fin 4) | z0s (k : Fin 4) | z0r (k : Fin 4)
  | psx (b : Fin 4) | psy (b : Fin 4) | fsx (f : Fin 2) | fsy (f : Fin 2)
  | xo (f : Fin 2) | xf (f : Fin 2) | xd (f : Fin 2) | yo (f : Fin 2) | yf (f : Fin 2) | yd (f : Fin 2)
  | st (b : Fin 4) | fc (j : Fin 4)
  deriving DecidableEq

/-- The semaphores in order. -/
def kinds : List Kind :=
  [.dy 0, .dy 1, .zs 0, .zs 1, .zs 2, .zs 3, .zr 0, .zr 1, .zr 2, .zr 3, .z0s 0, .z0s 1, .z0s 2, .z0s 3, .z0r 0, .z0r 1, .z0r 2, .z0r 3,
   .psx 0, .psx 1, .psx 2, .psx 3, .psy 0, .psy 1, .psy 2, .psy 3, .fsx 0, .fsx 1, .fsy 0, .fsy 1,
   .xo 0, .xo 1, .xf 0, .xf 1, .xd 0, .xd 1, .yo 0, .yo 1, .yf 0, .yf 1, .yd 0, .yd 1,
   .st 0, .st 1, .st 2, .st 3, .fc 0, .fc 1, .fc 2, .fc 3, .x]

/-- What semaphore `b` counts. -/
def dec (b : DmaSem sig) : Kind := kinds.getD b.val .x

/-- What this semaphore counts. -/
theorem dec_x : dec cc0_scratch24.sem = .x := by decide
/-- What this semaphore counts. -/
theorem dec_dy (s : Fin 2) : dec (sem2 cc0_scratch7 s) = .dy s := by revert s; decide
/-- What this semaphore counts. -/
theorem dec_zs (b : Fin 4) : dec (sem4 cc0_scratch8 b) = .zs b := by revert b; decide
/-- What this semaphore counts. -/
theorem dec_zr (b : Fin 4) : dec (sem4 cc0_scratch9 b) = .zr b := by revert b; decide
/-- What this semaphore counts. -/
theorem dec_z0s (b : Fin 4) : dec (sem4 cc0_scratch10 b) = .z0s b := by revert b; decide
/-- What this semaphore counts. -/
theorem dec_z0r (b : Fin 4) : dec (sem4 cc0_scratch11 b) = .z0r b := by revert b; decide
/-- What this semaphore counts. -/
theorem dec_psx (b : Fin 4) : dec (sem4 cc0_scratch12 b) = .psx b := by revert b; decide
/-- What this semaphore counts. -/
theorem dec_psy (b : Fin 4) : dec (sem4 cc0_scratch13 b) = .psy b := by revert b; decide
/-- What this semaphore counts. -/
theorem dec_fsx (f : Fin 2) : dec (sem2 cc0_scratch14 f) = .fsx f := by revert f; decide
/-- What this semaphore counts. -/
theorem dec_fsy (f : Fin 2) : dec (sem2 cc0_scratch15 f) = .fsy f := by revert f; decide
/-- What this semaphore counts. -/
theorem dec_xo (f : Fin 2) : dec (sem2 cc0_scratch16 f) = .xo f := by revert f; decide
/-- What this semaphore counts. -/
theorem dec_xf (f : Fin 2) : dec (sem2 cc0_scratch17 f) = .xf f := by revert f; decide
/-- What this semaphore counts. -/
theorem dec_xd (f : Fin 2) : dec (sem2 cc0_scratch18 f) = .xd f := by revert f; decide
/-- What this semaphore counts. -/
theorem dec_yo (f : Fin 2) : dec (sem2 cc0_scratch19 f) = .yo f := by revert f; decide
/-- What this semaphore counts. -/
theorem dec_yf (f : Fin 2) : dec (sem2 cc0_scratch20 f) = .yf f := by revert f; decide
/-- What this semaphore counts. -/
theorem dec_yd (f : Fin 2) : dec (sem2 cc0_scratch21 f) = .yd f := by revert f; decide
/-- What this semaphore counts. -/
theorem dec_st (b : Fin 4) : dec (sem4 cc0_scratch22 b) = .st b := by revert b; decide
/-- What this semaphore counts. -/
theorem dec_fc (j : Fin 4) : dec (sem4 cc0_scratch23 j) = .fc j := by revert j; decide

/-! ## Amounts -/

/-- The credit of a whole `x`, of a block of `dy`, of 128 columns of a half, of a block. -/
def NX : ℕ := RefSig.tileCredit S2048x2048 .f32
/-- The credit of a block of `dy`. -/
def ND : ℕ := RefSig.tileCredit S2048x512 .f32
/-- The credit of 128 columns of a half. -/
def NK : ℕ := RefSig.tileCredit S1024x128 .f32
/-- The credit of a block of 1024 rows. -/
def NB : ℕ := RefSig.tileCredit S1024x512 .f32

/-- This credit is positive. -/
theorem NX_pos : 0 < NX := RefSig.tileCredit_pos _ _ (Shape.numel_pos (by decide))
/-- This credit is positive. -/
theorem ND_pos : 0 < ND := RefSig.tileCredit_pos _ _ (Shape.numel_pos (by decide))
/-- This credit is positive. -/
theorem NK_pos : 0 < NK := RefSig.tileCredit_pos _ _ (Shape.numel_pos (by decide))
/-- This credit is positive. -/
theorem NB_pos : 0 < NB := RefSig.tileCredit_pos _ _ (Shape.numel_pos (by decide))

/-- The credit that a transfer of this view brings. -/
theorem amount_x (b : DmaSem sig) : (Memref.whole cc0_scratch0 : Memref sig .tc .vmem S2048x2048 .f32).view.amount (.dma b) = NX := rfl
/-- The credit that a transfer of this view brings. -/
theorem amount_dv (s : Fin 2) (b : DmaSem sig) : (vDv s).view.amount (.dma b) = ND := rfl
/-- The credit that a transfer of this view brings. -/
theorem amount_zk (k : Fin 4) (b : DmaSem sig) : (vZK k).view.amount (.dma b) = NK := rfl
/-- The credit that a transfer of this view brings. -/
theorem amount_z (k : Fin 4) (b : DmaSem sig) : (vZ k).view.amount (.dma b) = NB := rfl
/-- The credit that a transfer of this view brings. -/
theorem amount_fx (k : Fin 2) (b : DmaSem sig) : (vFx k).view.amount (.dma b) = NB := rfl
/-- The credit that a transfer of this view brings. -/
theorem amount_fy (k : Fin 2) (b : DmaSem sig) : (vFy k).view.amount (.dma b) = NB := rfl
/-- The credit that a transfer of this view brings. -/
theorem amount_out (off : Fin 2 → ℕ) (h) (b : DmaSem sig) : (vOut off h).view.amount (.dma b) = NB := rfl

/-- The credit a semaphore of kind `k` counts in a round. -/
def amt : Kind → ℕ
  | .x => NX
  | .dy _ => ND
  | .z0s _ => NK
  | .z0r _ => NK
  | _ => NB

/-- Every credit is positive. -/
theorem amt_pos (k : Kind) : 0 < amt k := by
  cases k
  case x => exact NX_pos
  case dy => exact ND_pos
  case z0s => exact NK_pos
  case z0r => exact NK_pos
  all_goals exact NB_pos

/-- The rounds of a semaphore of kind `k`: two for the double buffer's, none for the two that are never used. -/
def rounds : Kind → ℕ
  | .dy _ => 2
  | .zs b => if b = 0 then 0 else 1
  | .zr b => if b = 0 then 0 else 1
  | _ => 1

/-! ## What a wait hands over -/

variable (m : (ℓ : Loc nD τ sig) → Buf (Elt F) ℓ)

/-- The block in slot `s` of the double buffer in round `r`. -/
def blk (s : Fin 2) (r : ℕ) : Fin 4 := if r = 0 then s.castLE (by decide) else 2 + s.castLE (by decide)
/-- The slot of the partial products that block `b` uses. -/
def slot (b : Fin 4) : ℕ := b.val % 2
/-- The first row of the half that a device sends to its z neighbour, and of the half it keeps. -/
def hiP (c : Dev nD) : ℕ := 1024 - 1024 * (c.val % 2)
/-- The first row of the half that a device keeps. -/
def loP (c : Dev nD) : ℕ := 1024 * (c.val % 2)

/-- What device `c`'s wait for round `r` of a semaphore of kind `k` hands over. -/
def pay (c : Dev nD) (r : ℕ) : Kind → sProp 𝕄
  | .x => iprop(Pxv c Finset.univ fullShare (xC m c) ∗ Px c Finset.univ fullShare (xC m c))
  | .dy s => iprop(Pdv c (s2B s.val) fullShare (dvC m c (blk s r)) ∗ Pd c (dB (gcol c + 512 * (blk s r).val)) fullShare (dyAt m c))
  | .zs b => Pp c (hB (slot b) (hiP c)) fullShare (PC m c b)
  | .zr b => Pz c (s4B b.val) fullShare (zW m c)
  | .z0s k => Pp c (hK (hiP c) k.val) fullShare (PC m c 0)
  | .z0r k => Pz c (zK k.val) fullShare (zW m c)
  | .psx b => Ps c (s4B b.val) q1 (sC m c)
  | .psy b => Ps c (s4B b.val) q2 (sC m c)
  | .fsx f => Pfy c (fB f.val) fullShare.left (fyC m c)
  | .fsy f => Pfx c (fB f.val) fullShare.left (fxC m c)
  | .xo f => Po c (oB (gcol (xN c) + 512 * f.val)) fullShare (outC m c)
  | .xf f => Pfx c (fB f.val) fullShare (fxC m c)
  | .xd f => Po c (oB (gcol (xN (yN c)) + 512 * f.val)) fullShare (outC m c)
  | .yo f => Po c (oB (gcol (yN c) + 512 * (2 + f.val))) fullShare (outC m c)
  | .yf f => Pfy c (fB f.val) fullShare (fyC m c)
  | .yd f => Po c (oB (gcol (xN (yN c)) + 512 * (2 + f.val))) fullShare (outC m c)
  | .st b => iprop(Po c (oB (gcol c + 512 * b.val)) fullShare (outC m c) ∗ Ps c (s4B b.val) q0 (sC m c))
  | .fc j => if j.val < 2 then iprop(Po c (oB (gcol (xN c) + 512 * (2 + j.val))) fullShare (outC m c) ∗ Pfx c (fB j.val) fullShare.right (fxC m c))
      else iprop(Po c (oB (gcol (yN c) + 512 * (j.val - 2))) fullShare (outC m c) ∗ Pfy c (fB (j.val - 2)) fullShare.right (fyC m c))

/-- A device's result's memory at launch. -/
def outI (c : Dev nD) : S1024x8192.Idx → Elt F .f32 := m ((c : Thread nD τ).loc main_v1)

/-- What a neighbour's signal hands device `c`: the buffer, and the blocks of its result, that `c`'s transfers to it write. -/
def barPay (c : Dev nD) (d : Fin 3) : sProp 𝕄 :=
  match d with
  | 0 => iprop(∃ f, Pz (zN c) Finset.univ fullShare f)
  | 1 => iprop((∃ f, Pfx (xN c) Finset.univ fullShare f)
      ∗ (Po (xN c) (oB (gcol c + 512 * (0 : Fin 4).val)) fullShare (outI m (xN c)) ∗ Po (xN c) (oB (gcol c + 512 * (1 : Fin 4).val)) fullShare (outI m (xN c)))
      ∗ Po (xN c) (oB (gcol (yN c) + 512 * (0 : Fin 4).val)) fullShare (outI m (xN c)) ∗ Po (xN c) (oB (gcol (yN c) + 512 * (1 : Fin 4).val)) fullShare (outI m (xN c)))
  | 2 => iprop((∃ f, Pfy (yN c) Finset.univ fullShare f)
      ∗ (Po (yN c) (oB (gcol c + 512 * (2 : Fin 4).val)) fullShare (outI m (yN c)) ∗ Po (yN c) (oB (gcol c + 512 * (3 : Fin 4).val)) fullShare (outI m (yN c)))
      ∗ Po (yN c) (oB (gcol (xN c) + 512 * (2 : Fin 4).val)) fullShare (outI m (yN c)) ∗ Po (yN c) (oB (gcol (xN c) + 512 * (3 : Fin 4).val)) fullShare (outI m (yN c)))

omit [FloatOps F] in
/-- What a signal hands over can be kept in an invariant. -/
theorem barPay_storable (c : Dev nD) (d : Fin 3) : BI.Storable (upEmb : UEmb _ 𝕄) (barPay m c d) := by
  unfold barPay
  match d with
  | 0 => dsimp only; infer_instance
  | 1 => dsimp only; infer_instance
  | 2 => dsimp only; infer_instance

/-- What a wait hands over can be kept in an invariant. -/
theorem pay_storable (c : Dev nD) (r : ℕ) (k : Kind) : BI.Storable (upEmb : UEmb _ 𝕄) (pay m c r k) := by
  cases k <;> simp only [pay] <;> (repeat' split) <;> infer_instance

/-! ## The schedule -/

/-- The rounds of every cell. -/
def Rd : Rounds.Schedule (GSem nD τ sig) (Fin 3) 𝕄 where
  duties g r := if g.1.2 = .tc then (match g.2 with
    | .reg _ => if r = 0 then Finset.univ else ∅
    | .dma b => if r < rounds (dec b) then {0} else ∅) else ∅
  unitless _ := False
  amount g _ _ := match g.2 with
    | .reg _ => 1
    | .dma b => amt (dec b)
  payload g r d := match g.2 with
    | .reg _ => barPay m g.1.1 d
    | .dma b => pay m g.1.1 r (dec b)
  amount_pos g _ _ _ := by
    obtain ⟨g1, s | b⟩ := g
    · exact Nat.one_pos
    · exact amt_pos _

instance Rd_payload_storable (g : GSem nD τ sig) (r : ℕ) (d : Fin 3) : BI.Storable (upEmb : UEmb _ 𝕄) ((Rd (F := F) m).payload g r d) := by
  obtain ⟨g1, s | b⟩ := g
  · exact barPay_storable m g1.1 d
  · exact pay_storable m g1.1 r (dec b)

/-- In each of its rounds a DMA semaphore is paid once. -/
theorem duties_dma (c : Dev nD) (b : DmaSem sig) (r : ℕ) (h : r < rounds (dec b)) : (Rd (F := F) m).duties ((c : Thread nD τ), .dma b) r = {0} := by
  show (if (Proc.tc : Proc τ) = .tc then (if r < rounds (dec b) then ({0} : Finset (Fin 3)) else ∅) else ∅) = _
  rw [if_pos rfl, if_pos h]
/-- After its rounds a DMA semaphore is not paid. -/
theorem duties_dma_none (c : Dev nD) (b : DmaSem sig) (r : ℕ) (h : rounds (dec b) ≤ r) : (Rd (F := F) m).duties ((c : Thread nD τ), .dma b) r = ∅ := by
  show (if (Proc.tc : Proc τ) = .tc then (if r < rounds (dec b) then ({0} : Finset (Fin 3)) else ∅) else ∅) = _
  rw [if_pos rfl, if_neg (Nat.not_lt.mpr h)]
/-- The barrier is paid by three. -/
theorem duties_bar (c : Dev nD) : (Rd (F := F) m).duties ((c : Thread nD τ), .reg barS) 0 = Finset.univ := by
  show (if (Proc.tc : Proc τ) = .tc then (if (0 : ℕ) = 0 then (Finset.univ : Finset (Fin 3)) else ∅) else ∅) = _
  rw [if_pos rfl, if_pos rfl]
/-- After its round the barrier is not paid. -/
theorem duties_bar_none (c : Dev nD) (r : ℕ) (h : 1 ≤ r) : (Rd (F := F) m).duties ((c : Thread nD τ), .reg barS) r = ∅ := by
  show (if (Proc.tc : Proc τ) = .tc then (if r = 0 then (Finset.univ : Finset (Fin 3)) else ∅) else ∅) = _
  rw [if_pos rfl, if_neg (by omega)]

/-- The credit that a payment of a DMA semaphore brings. -/
theorem amount_dma (c : Dev nD) (b : DmaSem sig) (r : ℕ) (d : Fin 3) : (Rd (F := F) m).amount ((c : Thread nD τ), .dma b) r d = amt (dec b) := rfl
/-- A signal brings one. -/
theorem amount_bar (c : Dev nD) (r : ℕ) (d : Fin 3) : (Rd (F := F) m).amount ((c : Thread nD τ), .reg barS) r d = 1 := rfl

/-- What a round of a DMA semaphore brings in all. -/
theorem expect_dma (c : Dev nD) (b : DmaSem sig) (r : ℕ) (h : r < rounds (dec b)) : (Rd (F := F) m).expect ((c : Thread nD τ), .dma b) r = amt (dec b) := by
  unfold Schedule.expect Schedule.amountOf; rw [duties_dma m c b r h, Finset.sum_singleton, amount_dma]
/-- What the barrier's round brings in all. -/
theorem expect_bar (c : Dev nD) : (Rd (F := F) m).expect ((c : Thread nD τ), .reg barS) 0 = 3 := by
  unfold Schedule.expect Schedule.amountOf
  rw [duties_bar, Finset.sum_congr rfl fun d _ => amount_bar m c 0 d, Finset.sum_const, Finset.card_univ, Fintype.card_fin, smul_eq_mul]

/-- What a round of a DMA semaphore hands over. -/
theorem rest_dma (c : Dev nD) (b : DmaSem sig) (r : ℕ) (h : r < rounds (dec b)) :
    bigSep ((Rd (F := F) m).duties ((c : Thread nD τ), .dma b) r \ ∅) (fun d => (Rd (F := F) m).payload ((c : Thread nD τ), .dma b) r d) = pay m c r (dec b) := by
  rw [Finset.sdiff_empty, duties_dma m c b r h, bigSep_singleton]; rfl
/-- What the barrier's round hands over. -/
theorem rest_bar (c : Dev nD) :
    bigSep ((Rd (F := F) m).duties ((c : Thread nD τ), .reg barS) 0 \ ∅) (fun d => (Rd (F := F) m).payload ((c : Thread nD τ), .reg barS) 0 d)
      = iprop(barPay m c 0 ∗ barPay m c 1 ∗ barPay m c 2) := by
  rw [Finset.sdiff_empty, duties_bar, bigSep_univ_eq_bigSepL [0, 1, 2] (by decide) (by decide), bigSepL_cons_cons, bigSepL_cons_cons, bigSepL_singleton]
  rfl

/-! ## What a device owes, and the order of waits -/

/-- A device's payments to its neighbours in program order: the direction, the neighbour's semaphore, the amount. -/
def owed : List (Fin 3 × SemLoc sig × ℕ) :=
  [(0, .reg barS, 1), (1, .reg barS, 1), (2, .reg barS, 1),
   (0, .dma (sem4 cc0_scratch11 0), NK), (0, .dma (sem4 cc0_scratch11 1), NK), (0, .dma (sem4 cc0_scratch11 2), NK), (0, .dma (sem4 cc0_scratch11 3), NK),
   (0, .dma (sem4 cc0_scratch9 1), NB), (1, .dma (sem2 cc0_scratch16 0), NB), (2, .dma (sem2 cc0_scratch20 0), NB),
   (0, .dma (sem4 cc0_scratch9 2), NB), (1, .dma (sem2 cc0_scratch16 1), NB), (2, .dma (sem2 cc0_scratch20 1), NB),
   (0, .dma (sem4 cc0_scratch9 3), NB), (1, .dma (sem2 cc0_scratch17 0), NB), (2, .dma (sem2 cc0_scratch19 0), NB),
   (1, .dma (sem2 cc0_scratch17 1), NB), (2, .dma (sem2 cc0_scratch19 1), NB),
   (2, .dma (sem2 cc0_scratch21 0), NB), (1, .dma (sem2 cc0_scratch18 0), NB), (2, .dma (sem2 cc0_scratch21 1), NB), (1, .dma (sem2 cc0_scratch18 1), NB)]

/-- One payment of device `c`. -/
def payOf (c : Dev nD) (p : Fin 3 × SemLoc sig × ℕ) : CellTallies nD τ sig Unit := tallyAt ((nb p.1 c : Thread nD τ), p.2.1) () p.2.2

/-- The tally of a list of payments of device `c`, the first outermost. -/
def tl (c : Dev nD) : List (Fin 3 × SemLoc sig × ℕ) → CellTallies nD τ sig Unit
  | [] => 0
  | p :: l => tl c l + payOf c p

/-- Device `c` has made its first `n` payments. -/
def ow (c : Dev nD) (n : ℕ) : sProp 𝕄 := iprop(∃ W, owes (c : Thread nD τ) (tl c (owed.drop n)) W)

/-- The level of a semaphore: what is waited for later, and owed until later, is higher. -/
def lvK : Kind → ℕ
  | .z0r _ => 2
  | .zr b => 2 + b.val
  | .xo _ => 6 | .xf _ => 6 | .yo _ => 6 | .yf _ => 6
  | .xd _ => 7 | .yd _ => 7
  | _ => 0
/-- The level of any semaphore: the barrier's is 1. -/
def lvS : SemLoc sig → ℕ
  | .reg _ => 1
  | .dma b => lvK (dec b)

/-- The semaphores of a device's main thread have a level. -/
def L (g : GSem nD τ sig) : Finset Unit := if g.1.2 = .tc then {()} else ∅
/-- Their levels. -/
def lv (g : GSem nD τ sig) (_ : Unit) : ℕ := lvS g.2

/-- Those of another thread have none. -/
theorem L_of_ne (g : GSem nD τ sig) (h : g.1.2 ≠ .tc) : L g = ∅ := if_neg h
/-- A main thread's semaphores have one. -/
theorem L_tc (c : Dev nD) (sm : SemLoc sig) : L ((c : Thread nD τ), sm) = {()} := if_pos rfl

/-- What a tally counts is on its list. -/
theorem tl_pos (c : Dev nD) (l : List (Fin 3 × SemLoc sig × ℕ)) {g : GSem nD τ sig} {u : Unit} (h : 0 < tl c l g u) :
    ∃ p ∈ l, g = ((nb p.1 c : Thread nD τ), p.2.1) := by
  induction l with
  | nil => exact absurd h (Nat.lt_irrefl 0)
  | cons p l ih =>
    unfold tl payOf at h
    rw [Pi.add_apply, Finsupp.add_apply, tallyAt_apply] at h
    by_cases hg : g = ((nb p.1 c : Thread nD τ), p.2.1) ∧ u = ()
    · exact ⟨p, List.mem_cons_self, hg.1⟩
    · rw [if_neg hg, Nat.add_zero] at h
      obtain ⟨p', hp', e⟩ := ih h
      exact ⟨p', List.mem_cons_of_mem _ hp', e⟩

omit [FloatOps F] in
/-- A semaphore may be waited for while every payment still owed is to a higher one. -/
theorem mayWait (c : Dev nD) (sm : SemLoc sig) (l : List (Fin 3 × SemLoc sig × ℕ)) (h : ∀ p ∈ l, lvS sm < lvS p.2.1) :
    (levAts L lv : sProp 𝕄) ⊢ MayWait (c : Thread nD τ) sm () (tl c l) :=
  MayOwe.of_cut (L := L) (lev := lv) (lvS sm) (fun p hp => by rw [Finset.mem_singleton.mp hp, L_tc]; exact Finset.mem_singleton_self _)
    (fun g u hg => by obtain ⟨p, _, rfl⟩ := tl_pos c l hg; exact Finset.mem_singleton_self _)
    (fun p hp => by rw [Finset.mem_singleton.mp hp]; exact Nat.le_refl _)
    (fun g u hg => by obtain ⟨p, hp, rfl⟩ := tl_pos c l hg; exact h p hp)

/-! ## What the body uses of the protocol -/

/-- Every cell's invariant, at its name, and that every cell has reached round 0. -/
def records (K : Dev nD × SemLoc sig → ℕ) : sProp 𝕄 :=
  bigSep (Finset.univ : Finset (Dev nD × SemLoc sig)) fun ck => iprop(cellInv ER (Rd m) (K ck) ((ck.1 : Thread nD τ), ck.2) ∗ reached ER ((ck.1 : Thread nD τ), ck.2) 0)
instance records_persistent (K : Dev nD × SemLoc sig → ℕ) : BI.Persistent (records m K) := by unfold records; infer_instance

/-- A cell's record, out of all. -/
theorem rec_at (K : Dev nD × SemLoc sig → ℕ) (ck : Dev nD × SemLoc sig) :
    records m K ⊢ (iprop(cellInv ER (Rd m) (K ck) ((ck.1 : Thread nD τ), ck.2) ∗ reached ER ((ck.1 : Thread nD τ), ck.2) 0) : sProp 𝕄) := bigSep_elim (Finset.mem_univ ck)
/-- A cell's invariant, out of all records. -/
theorem rec_inv (K : Dev nD × SemLoc sig → ℕ) (c : Dev nD) (sm : SemLoc sig) : records m K ⊢ (cellInv ER (Rd m) (K (c, sm)) ((c : Thread nD τ), sm) : sProp 𝕄) := by
  iintro H
  ihave H1 := (rec_at m K (c, sm)) $$ H
  icases H1 with ⟨H1, -⟩
  iexact H1
/-- That a cell has reached round 0, out of all records. -/
theorem rec_reached (K : Dev nD × SemLoc sig → ℕ) (c : Dev nD) (sm : SemLoc sig) : records m K ⊢ (reached ER ((c : Thread nD τ), sm) 0 : sProp 𝕄) := by
  iintro H
  ihave H1 := (rec_at m K (c, sm)) $$ H
  icases H1 with ⟨-, H1⟩
  iexact H1

/-- The device is at round `R` of its semaphore, none of it taken. -/
def done (c : Dev nD) (sm : SemLoc sig) (R : ℕ) : sProp 𝕄 := iprop(atPos ER ((c : Thread nD τ), sm) R ∅ 0 ∗ reached ER ((c : Thread nD τ), sm) R)
/-- Round `R` of its semaphore is the device's to fund by a transfer of its own. -/
def rdy (c : Dev nD) (sm : SemLoc sig) (R : ℕ) : sProp 𝕄 := iprop(dutyTok ER ((c : Thread nD τ), sm) R 0 ∗ done c sm R)
/-- Round `R` of its semaphore is funded: the device may wait for it. -/
def pend (c : Dev nD) (sm : SemLoc sig) (R : ℕ) (N : ℕ) : sProp 𝕄 := iprop(cred (tallyAt ((c : Thread nD τ), sm) () N) ∗ done c sm R)
/-- The right to fund round 0 of a neighbour's semaphore. -/
def tok (n : Dev nD) (sm : SemLoc sig) : sProp 𝕄 := dutyTok ER ((n : Thread nD τ), sm) 0 0

end Cert.KernelIdeal.Own

end
-- ==== Proof.Steps.lean ====
/-
One rule per operation of the body, each from the four general ones here: a transfer to a neighbour, a copy
within the device, a wait, and a load or store on a part of a buffer.
-/
module

public import proofs.«01_k».proof.Proof.Sched

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants: the program has no loop. -/
abbrev 𝒱₀ : Variants := Variants.none

/-- The weakest precondition of a program run by device `c`. -/
abbrev WP (c : Dev nD) (p : TP F PUnit) (Q : PUnit → sProp 𝕄) : sProp 𝕄 := wp frame (wpE (defs₀ (F := F)) 𝒱₀ (c : Thread nD τ) none) Set.univ p Q

variable (m : (ℓ : Loc nD τ sig) → Buf (Elt F) ℓ)

/-- The protocol's standing facts: every cell's invariant and first round, and the levels. -/
def env (K : Dev nD × SemLoc sig → ℕ) : sProp 𝕄 := iprop(records m K ∗ levAts L lv)
instance env_persistent (K : Dev nD × SemLoc sig → ℕ) : BI.Persistent (env m K) := by unfold env; infer_instance

/-- A cell's invariant, out of what all devices know. -/
theorem env_inv (K : Dev nD × SemLoc sig → ℕ) (c : Dev nD) (sm : SemLoc sig) : env m K ⊢ (cellInv ER (Rd m) (K (c, sm)) ((c : Thread nD τ), sm) : sProp 𝕄) := by
  unfold env; iintro ⟨H, -⟩; iapply (rec_inv m K c sm); iexact H
/-- That a cell has reached round 0, out of what all devices know. -/
theorem env_reached (K : Dev nD × SemLoc sig → ℕ) (c : Dev nD) (sm : SemLoc sig) : env m K ⊢ (reached ER ((c : Thread nD τ), sm) 0 : sProp 𝕄) := by
  unfold env; iintro ⟨H, -⟩; iapply (rec_reached m K c sm); iexact H
/-- A wait is allowed while everything still owed is to higher semaphores. -/
theorem env_mayWait (K : Dev nD × SemLoc sig → ℕ) (c : Dev nD) (sm : SemLoc sig) (l : List (Fin 3 × SemLoc sig × ℕ)) (h : ∀ p ∈ l, lvS sm < lvS p.2.1) :
    env m K ⊢ (MayWait (c : Thread nD τ) sm () (tl c l) : sProp 𝕄) := by
  unfold env; iintro ⟨-, H⟩; iapply (mayWait c sm l h); iexact H

section Generic

variable (K : Dev nD × SemLoc sig → ℕ)

/-- A copy within the device, of elements that read the same through both views. -/
theorem gcopy {sp sp' : Space} {s : Shape} (src : Memref sig .tc sp s .f32) (dst : Memref sig .tc sp' s .f32) (sm : DmaSem sig)
    {hw : src.view.WordExact} {hw' : dst.view.WordExact} {hsem : DmaTarget.Typed (nD := nD) (τ := τ) (p := .tc) sp (.dma sm) (.here dst)}
    (c : Dev nD) (R N : ℕ) (k : Kind) (hdec : dec sm = k) (hr : R < rounds k) (hN : dst.view.amount (.dma sm) = N) (hk : amt k = N)
    {Ss : Finset (Idx (src.view.loc (c : Thread nD τ)))} {Sd : Finset (Idx (dst.view.loc (c : Thread nD τ)))} (hs : src.view.set = Ss) (hd : dst.view.set = Sd)
    (q : PosShare TreeShare) (fs : Buf (Elt F) (src.view.loc (c : Thread nD τ))) (fd g : Buf (Elt F) (dst.view.loc (c : Thread nD τ)))
    (hv : ∀ j, src.view.read (Elt F) fs j = dst.view.read (Elt F) g j)
    (hpay : iprop((dst.view.loc (c : Thread nD τ) ↦[Sd]{fullShare} g) ∗ (src.view.loc (c : Thread nD τ) ↦[Ss]{q} fs)) ⊢ pay m c R k)
    (Q : PUnit → sProp 𝕄) :
    iprop(env m K ∗ rdy c (.dma sm) R ∗ (src.view.loc (c : Thread nD τ) ↦[Ss]{q} fs) ∗ (dst.view.loc (c : Thread nD τ) ↦[Sd]{fullShare} fd))
      ⊢ iprop((pend c (.dma sm) R N -∗ Q ⟨⟩) -∗ WP c (Prog.lift (.enqueueDma src (.here dst) (.dma sm) hw hw' hsem)) Q) := by
  subst hs hd hdec
  unfold rdy pend done
  iintro ⟨#HE, ⟨Ht, Ha, #Hr⟩, Hs, Hd⟩ Hk
  simp only [Prog.lift]
  iapply (Rounds.wp_copy_pointsTo 𝒱₀ ER (Rd m) (c : Thread nD τ) none (κ := K (c, .dma sm)) (r := R) (d := 0) (fd := fd) (fs := fs) (q := q)
    (by rw [duties_dma m c sm R hr]; exact Finset.mem_singleton_self _) () N hN ((amount_dma m c sm R 0).trans hk)
    (by rw [pointsTo_congr (write_agree dst.view fd g (src.view.read (Elt F) fs) hv)]; exact hpay)) $$ [Ht Hs Hd]
  · isplitr; · iapply (env_inv m K c (.dma sm)); iexact HE
    isplitl [Hs]; · iexact Hs
    isplitl [Hd]; · iexact Hd
    isplitl [Ht]; · iexact Ht
    iexact Hr
  iintro Hc
  rw [wp_ret]; imodintro
  iapply Hk
  isplitl [Hc]; · iexact Hc
  isplitl [Ha]; · iexact Ha
  iexact Hr

/-- A transfer to a neighbour, of elements that read the same through both views. -/
theorem gsend {sp sp' : Space} {s : Shape} (src : Memref sig .tc sp s .f32) (dst : Memref sig .tc sp' s .f32) (sS sR : DmaSem sig) (n : Dev nD)
    {hsc : dst.view.ref.isScScratch = false}
    {hw : src.view.WordExact} {hw' : dst.view.WordExact} {hsem : DmaTarget.Typed (nD := nD) (τ := τ) (p := .tc) sp (.dma sR) (.remote (Dev.tc n) dst (.dma sS) hsc)}
    (c : Dev nD) (i : ℕ) (d : Fin 3) (N : ℕ) (hi : owed.drop i = (d, .dma sR, N) :: owed.drop (i + 1)) (hn : n = nb d c)
    (kS kR : Kind) (hdS : dec sS = kS) (hdR : dec sR = kR) (hrS : 0 < rounds kS) (hrR : 0 < rounds kR) (hN : dst.view.amount (.dma sR) = N) (hkS : amt kS = N) (hkR : amt kR = N)
    {Ss : Finset (Idx (src.view.loc (c : Thread nD τ)))} {Sd : Finset (Idx (dst.view.loc (n : Thread nD τ)))} (hs : src.view.set = Ss) (hd : dst.view.set = Sd)
    (q : PosShare TreeShare) (fs : Buf (Elt F) (src.view.loc (c : Thread nD τ))) (fd g : Buf (Elt F) (dst.view.loc (n : Thread nD τ)))
    (hv : ∀ j, src.view.read (Elt F) fs j = dst.view.read (Elt F) g j)
    (hpayS : (src.view.loc (c : Thread nD τ) ↦[Ss]{q} fs) ⊢ pay m c 0 kS)
    (hpayR : (dst.view.loc (n : Thread nD τ) ↦[Sd]{fullShare} g) ⊢ pay m n 0 kR)
    (Q : PUnit → sProp 𝕄) :
    iprop(env m K ∗ rdy c (.dma sS) 0 ∗ tok n (.dma sR) ∗ (src.view.loc (c : Thread nD τ) ↦[Ss]{q} fs) ∗ (dst.view.loc (n : Thread nD τ) ↦[Sd]{fullShare} fd) ∗ ow c i)
      ⊢ iprop(((pend c (.dma sS) 0 N ∗ ow c (i + 1)) -∗ Q ⟨⟩) -∗ WP c (Prog.lift (.enqueueDma src (.remote (Dev.tc n) dst (.dma sS) hsc) (.dma sR) hw hw' hsem)) Q) := by
  subst hs hd hdS hdR
  unfold rdy pend done tok ow
  iintro ⟨#HE, ⟨HtS, Ha, #Hr⟩, HtR, Hs, Hd, ⟨%W, HO⟩⟩ Hk
  simp only [Prog.lift]
  iapply (Rounds.wp_send_pointsTo 𝒱₀ ER (Rd m) (c : Thread nD τ) none (κ₁ := K (c, .dma sS)) (κ₂ := K (n, .dma sR)) (r₁ := 0) (r₂ := 0) (d₁ := 0) (d₂ := 0)
    (fd := fd) (fs := fs) (q := q)
    (by rw [duties_dma m c sS 0 hrS]; exact Finset.mem_singleton_self _) (by rw [duties_dma m n sR 0 hrR]; exact Finset.mem_singleton_self _)
    () () N hN ((amount_dma m c sS 0 0).trans hkS) ((amount_dma m n sR 0 0).trans hkR)
    (O₀ := tl c (owed.drop i)) (tl c (owed.drop (i + 1))) (by rw [hi, hn]; rfl) (W := W)
    hpayS
    (by rw [pointsTo_congr (write_agree dst.view fd g (src.view.read (Elt F) fs) hv)]; exact hpayR)) $$ [HtS HtR Hs Hd HO]
  · isplitr; · iapply (env_inv m K c (.dma sS)); iexact HE
    isplitr; · iapply (env_inv m K n (.dma sR)); iexact HE
    isplitl [Hs]; · iexact Hs
    isplitl [Hd]; · iexact Hd
    isplitl [HO]; · iexact HO
    isplitl [HtS]; · iexact HtS
    isplitr; · iexact Hr
    isplitl [HtR]; · iexact HtR
    iapply (env_reached m K n (.dma sR)); iexact HE
  iintro ⟨Hc, HO⟩
  rw [wp_ret]; imodintro
  iapply Hk
  isplitl [Hc Ha]
  · isplitl [Hc]; · iexact Hc
    isplitl [Ha]; · iexact Ha
    iexact Hr
  iexists W; iexact HO

/-- A wait for round `R` of a DMA semaphore. -/
theorem gwait {sp sp' : Space} {s s' : Shape} (sm : DmaSem sig) (src : Memref sig .tc sp' s' .f32) (dst : Memref sig .tc sp s .f32)
    {hw : src.view.WordExact} {hw' : dst.view.WordExact} (c : Dev nD) (R N i : ℕ) (k : Kind) (hdec : dec sm = k) (hr : R < rounds k) (hN : dst.view.amount (.dma sm) = N) (hk : amt k = N)
    (hl : ∀ p ∈ owed.drop i, lvK k < lvS p.2.1) (Q : PUnit → sProp 𝕄) :
    iprop(env m K ∗ pend c (.dma sm) R N ∗ ow c i)
      ⊢ iprop(((ow c i ∗ done c (.dma sm) (R + 1) ∗ pay m c R k) -∗ Q ⟨⟩) -∗ WP c (Prog.lift (.waitDma2 sm src dst hw hw')) Q) := by
  subst hN hdec
  unfold pend done ow
  iintro ⟨#HE, ⟨Hc, Ha, #Hr⟩, ⟨%W, HO⟩⟩ Hk
  simp only [Prog.lift]
  iapply (Rounds.wp_wait_rest_token 𝒱₀ ER (Rd m) (c : Thread nD τ) none (κ := K (c, .dma sm))
      (wpE_waitDma2_eq 𝒱₀ (c : Thread nD τ) none Set.univ) (Set.mem_univ _) () (O := tl c (owed.drop i)) (W := W) (R := R) (m := 0) (T := ∅)
      (by rw [Nat.zero_add, expect_dma m c sm R hr, hk])) $$ [Hc Ha HO]
  · isplitr; · iapply (env_inv m K c (.dma sm)); iexact HE
    isplitl [Hc]; · iexact Hc
    isplitl [HO]; · iexact HO
    isplitr; · iapply (env_mayWait m K c (.dma sm) _ hl); iexact HE
    iexact Ha
  iintro ⟨HO, Ha, #Hr', Hpay⟩
  ihave Hp := (Entails.of_eq (rest_dma m c sm R hr)) $$ Hpay
  rw [wp_ret]; imodintro
  iapply Hk
  isplitl [HO]; · iexists _; iexact HO
  isplitl [Ha]
  · isplitl [Ha]; · iexact Ha
    iexact Hr'
  iexact Hp

end Generic

end Cert.KernelIdeal.Own

end
-- ==== Proof.Regions.lean ====
/-
How each buffer's points-to splits into the parts the transfers move, and back.
-/
module

public import proofs.«01_k».proof.Proof.Sched

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part covered by two disjoint ones is held as the two. -/
theorem pts_two {ℓ : Loc nD τ sig} {q : PosShare TreeShare} {f : Buf (Elt F) ℓ} (S A B : Finset (Idx ℓ)) (h : ∀ i, i ∈ S ↔ i ∈ A ∨ i ∈ B) (hd : ∀ i, i ∈ A → i ∈ B → False) :
    (ℓ ↦[S]{q} f : sProp 𝕄) = iprop((ℓ ↦[A]{q} f) ∗ ℓ ↦[B]{q} f) := by
  classical
  have e : S = A ∪ B := by ext i; rw [Finset.mem_union]; exact h i
  subst e
  have hd' : Disjoint A B := Finset.disjoint_left.mpr hd
  exact BI.Entails.antisymm (pointsTo_union hd').1 (pointsTo_union hd').2

/-- A part covered by four disjoint ones is held as the four. -/
theorem pts_four {ℓ : Loc nD τ sig} {q : PosShare TreeShare} {f : Buf (Elt F) ℓ} (S : Finset (Idx ℓ)) (A : Fin 4 → Finset (Idx ℓ)) (h : ∀ i, i ∈ S ↔ ∃ k, i ∈ A k)
    (hd : ∀ i k k', i ∈ A k → i ∈ A k' → k = k') :
    (ℓ ↦[S]{q} f : sProp 𝕄) = iprop((ℓ ↦[A 0]{q} f) ∗ (ℓ ↦[A 1]{q} f) ∗ (ℓ ↦[A 2]{q} f) ∗ ℓ ↦[A 3]{q} f) := by
  classical
  have e : S = Finset.univ.biUnion A := by
    ext i; rw [Finset.mem_biUnion, h i]
    exact ⟨fun ⟨k, hk⟩ => ⟨k, Finset.mem_univ _, hk⟩, fun ⟨k, _, hk⟩ => ⟨k, hk⟩⟩
  subst e
  rw [pointsTo_biUnion Finset.univ A (fun t _ t' _ hne => Finset.disjoint_left.mpr fun i hi hi' => hne (hd i t t' hi hi')),
    bigSep_univ_eq_bigSepL [0, 1, 2, 3] (by decide) (by decide), bigSepL_cons_cons, bigSepL_cons_cons, bigSepL_cons_cons, bigSepL_singleton]
  rfl

/-- Two disjoint parts held at whatever contents are the part they cover, held at some contents. -/
theorem pts_join {ℓ : Loc nD τ sig} {q : PosShare TreeShare} {f g : Buf (Elt F) ℓ} (S A B : Finset (Idx ℓ)) (h : ∀ i, i ∈ S ↔ i ∈ A ∨ i ∈ B) (hd : ∀ i, i ∈ A → i ∈ B → False) :
    iprop((ℓ ↦[A]{q} f) ∗ ℓ ↦[B]{q} g) ⊢ (iprop(∃ h, ℓ ↦[S]{q} h) : sProp 𝕄) := by
  classical
  have e : S = A ∪ B := by ext i; rw [Finset.mem_union]; exact h i
  subst e
  iintro H
  ihave H' := (pointsTo_join (f := f) (g := g) (Finset.disjoint_left.mpr hd)) $$ H
  iexists _; iexact H'

/-- Three shares of one part: the store's, the x transfer's and the y transfer's. -/
theorem pts_thirds {ℓ : Loc nD τ sig} {f : Buf (Elt F) ℓ} (S : Finset (Idx ℓ)) :
    (ℓ ↦[S]{fullShare} f : sProp 𝕄) = iprop((ℓ ↦[S]{q0} f) ∗ (ℓ ↦[S]{q1} f) ∗ ℓ ↦[S]{q2} f) := by
  have a := pointsTo_share (Ix := Unit) (Name := ℕ) (U := UU) (Lvl := ℕ) (ℓ := ℓ) (I := S) (f := f) (PosShare.mem_left_op_right fullShare)
  have b := pointsTo_share (Ix := Unit) (Name := ℕ) (U := UU) (Lvl := ℕ) (ℓ := ℓ) (I := S) (f := f) (PosShare.mem_left_op_right fullShare.right)
  rw [BI.Entails.antisymm a.1 a.2, BI.Entails.antisymm b.1 b.2]
/-- Two shares of one part. -/
theorem pts_halves {ℓ : Loc nD τ sig} {f : Buf (Elt F) ℓ} (S : Finset (Idx ℓ)) :
    (ℓ ↦[S]{fullShare} f : sProp 𝕄) = iprop((ℓ ↦[S]{fullShare.left} f) ∗ ℓ ↦[S]{fullShare.right} f) := by
  have a := pointsTo_share (Ix := Unit) (Name := ℕ) (U := UU) (Lvl := ℕ) (ℓ := ℓ) (I := S) (f := f) (PosShare.mem_left_op_right fullShare)
  exact BI.Entails.antisymm a.1 a.2

section

variable (c : Dev nD) (q : PosShare TreeShare)

/-- What is in `s2B`. -/
theorem mem_s2B (s : ℕ) (i : S2x2048x512.Idx) : i ∈ s2B s ↔ (i 0).val = s := by rw [s2B, Finset.mem_filter]; exact ⟨fun h => h.2, fun h => ⟨Finset.mem_univ _, h⟩⟩
/-- What is in `hB`. -/
theorem mem_hB (s r : ℕ) (i : S2x2048x512.Idx) : i ∈ hB s r ↔ (i 0).val = s ∧ r ≤ (i 1).val ∧ (i 1).val < r + 1024 := by rw [hB, Finset.mem_filter]; exact ⟨fun h => h.2, fun h => ⟨Finset.mem_univ _, h⟩⟩
/-- What is in `cK`. -/
theorem mem_cK (k : ℕ) (i : S2x2048x512.Idx) : i ∈ cK k ↔ (i 0).val = 0 ∧ 128 * k ≤ (i 2).val ∧ (i 2).val < 128 * k + 128 := by rw [cK, Finset.mem_filter]; exact ⟨fun h => h.2, fun h => ⟨Finset.mem_univ _, h⟩⟩
/-- What is in `hK`. -/
theorem mem_hK (r k : ℕ) (i : S2x2048x512.Idx) : i ∈ hK r k ↔ (i 0).val = 0 ∧ (r ≤ (i 1).val ∧ (i 1).val < r + 1024) ∧ 128 * k ≤ (i 2).val ∧ (i 2).val < 128 * k + 128 := by rw [hK, Finset.mem_filter]; exact ⟨fun h => h.2, fun h => ⟨Finset.mem_univ _, h⟩⟩
/-- What is in `s4B`. -/
theorem mem_s4B (b : ℕ) (i : S4x1024x512.Idx) : i ∈ s4B b ↔ (i 0).val = b := by rw [s4B, Finset.mem_filter]; exact ⟨fun h => h.2, fun h => ⟨Finset.mem_univ _, h⟩⟩
/-- What is in `zK`. -/
theorem mem_zK (k : ℕ) (i : S4x1024x512.Idx) : i ∈ zK k ↔ (i 0).val = 0 ∧ 128 * k ≤ (i 2).val ∧ (i 2).val < 128 * k + 128 := by rw [zK, Finset.mem_filter]; exact ⟨fun h => h.2, fun h => ⟨Finset.mem_univ _, h⟩⟩
/-- What is in `fB`. -/
theorem mem_fB (f : ℕ) (i : S2x1024x512.Idx) : i ∈ fB f ↔ (i 0).val = f := by rw [fB, Finset.mem_filter]; exact ⟨fun h => h.2, fun h => ⟨Finset.mem_univ _, h⟩⟩
/-- What is in `oB`. -/
theorem mem_oB (col : ℕ) (i : S1024x8192.Idx) : i ∈ oB col ↔ col ≤ (i 1).val ∧ (i 1).val < col + 512 := by rw [oB, Finset.mem_filter]; exact ⟨fun h => h.2, fun h => ⟨Finset.mem_univ _, h⟩⟩
/-- What is in `dB`. -/
theorem mem_dB (col : ℕ) (i : S2048x8192.Idx) : i ∈ dB col ↔ col ≤ (i 1).val ∧ (i 1).val < col + 512 := by rw [dB, Finset.mem_filter]; exact ⟨fun h => h.2, fun h => ⟨Finset.mem_univ _, h⟩⟩

/-- The double buffer is its two slots. -/
theorem dv_split (f : S2x2048x512.Idx → Elt F .f32) : Pdv c Finset.univ q f = iprop(Pdv c (s2B (0 : Fin 2).val) q f ∗ Pdv c (s2B (1 : Fin 2).val) q f) :=
  pts_two (ℓ := (c : Thread nD τ).loc cc0_scratch1) Finset.univ (s2B 0) (s2B 1)
    (fun (i : S2x2048x512.Idx) => by rw [mem_s2B, mem_s2B]; have h : (i 0).val < 2 := (i 0).isLt; refine ⟨fun _ => by omega, fun _ => Finset.mem_univ _⟩)
    (fun (i : S2x2048x512.Idx) h h' => by rw [mem_s2B] at h h'; omega)
/-- Its slots, at whatever contents, are the buffer. -/
theorem dv_join (f g : S2x2048x512.Idx → Elt F .f32) : iprop(Pdv c (s2B (0 : Fin 2).val) q f ∗ Pdv c (s2B (1 : Fin 2).val) q g) ⊢ (iprop(∃ h, Pdv c Finset.univ q h) : sProp 𝕄) :=
  pts_join (ℓ := (c : Thread nD τ).loc cc0_scratch1) Finset.univ (s2B 0) (s2B 1)
    (fun (i : S2x2048x512.Idx) => by rw [mem_s2B, mem_s2B]; have h : (i 0).val < 2 := (i 0).isLt; refine ⟨fun _ => by omega, fun _ => Finset.mem_univ _⟩)
    (fun (i : S2x2048x512.Idx) h h' => by rw [mem_s2B] at h h'; omega)
/-- The partial products' buffer is its two slots. -/
theorem pp_split (f : S2x2048x512.Idx → Elt F .f32) : Pp c Finset.univ q f = iprop(Pp c (s2B (0 : Fin 2).val) q f ∗ Pp c (s2B (1 : Fin 2).val) q f) :=
  pts_two (ℓ := (c : Thread nD τ).loc cc0_scratch2) Finset.univ (s2B 0) (s2B 1)
    (fun (i : S2x2048x512.Idx) => by rw [mem_s2B, mem_s2B]; have h : (i 0).val < 2 := (i 0).isLt; refine ⟨fun _ => by omega, fun _ => Finset.mem_univ _⟩)
    (fun (i : S2x2048x512.Idx) h h' => by rw [mem_s2B] at h h'; omega)
/-- Two slots of the partial products make the whole buffer. -/
theorem pp_join (f g : S2x2048x512.Idx → Elt F .f32) : iprop(Pp c (s2B (0 : Fin 2).val) q f ∗ Pp c (s2B (1 : Fin 2).val) q g) ⊢ (iprop(∃ h, Pp c Finset.univ q h) : sProp 𝕄) :=
  pts_join (ℓ := (c : Thread nD τ).loc cc0_scratch2) Finset.univ (s2B 0) (s2B 1)
    (fun (i : S2x2048x512.Idx) => by rw [mem_s2B, mem_s2B]; have h : (i 0).val < 2 := (i 0).isLt; refine ⟨fun _ => by omega, fun _ => Finset.mem_univ _⟩)
    (fun (i : S2x2048x512.Idx) h h' => by rw [mem_s2B] at h h'; omega)
/-- A slot is its two halves: the one sent, the one kept. -/
theorem pp_half (s : ℕ) (f : S2x2048x512.Idx → Elt F .f32) : Pp c (s2B s) q f = iprop(Pp c (hB s (hiP c)) q f ∗ Pp c (hB s (loP c)) q f) :=
  pts_two (ℓ := (c : Thread nD τ).loc cc0_scratch2) (s2B s) (hB s (hiP c)) (hB s (loP c))
    (fun (i : S2x2048x512.Idx) => by rw [mem_s2B, mem_hB, mem_hB]; have h : (i 1).val < 2048 := (i 1).isLt; unfold hiP loP; omega)
    (fun (i : S2x2048x512.Idx) h h' => by rw [mem_hB] at h h'; unfold hiP loP at *; omega)
/-- Slot 0 is its four column groups. -/
theorem pp_cols (f : S2x2048x512.Idx → Elt F .f32) : Pp c (s2B (0 : Fin 2).val) q f = iprop(Pp c (cK (0 : Fin 4).val) q f ∗ Pp c (cK (1 : Fin 4).val) q f ∗ Pp c (cK (2 : Fin 4).val) q f ∗ Pp c (cK (3 : Fin 4).val) q f) :=
  pts_four (ℓ := (c : Thread nD τ).loc cc0_scratch2) (s2B 0) (fun k => cK k.val)
    (fun (i : S2x2048x512.Idx) => by
      rw [mem_s2B]; have h : (i 2).val < 512 := (i 2).isLt
      refine ⟨fun h0 => ⟨⟨(i 2).val / 128, by omega⟩, ?_⟩, fun ⟨k, hk⟩ => ?_⟩
      · rw [mem_cK]; dsimp only; omega
      · rw [mem_cK] at hk; exact hk.1)
    (fun (i : S2x2048x512.Idx) k k' h h' => by rw [mem_cK] at h h'; exact Fin.ext (by omega))
/-- A column group is its two halves. -/
theorem pp_colhalf (k : ℕ) (f : S2x2048x512.Idx → Elt F .f32) : Pp c (cK k) q f = iprop(Pp c (hK (hiP c) k) q f ∗ Pp c (hK (loP c) k) q f) :=
  pts_two (ℓ := (c : Thread nD τ).loc cc0_scratch2) (cK k) (hK (hiP c) k) (hK (loP c) k)
    (fun (i : S2x2048x512.Idx) => by rw [mem_cK, mem_hK, mem_hK]; have h : (i 1).val < 2048 := (i 1).isLt; unfold hiP loP; omega)
    (fun (i : S2x2048x512.Idx) h h' => by rw [mem_hK] at h h'; unfold hiP loP at *; omega)
/-- A half of slot 0 is its four column groups. -/
theorem pp_halfcols (r : ℕ) (f : S2x2048x512.Idx → Elt F .f32) : Pp c (hB (0 : Fin 2).val r) q f = iprop(Pp c (hK r (0 : Fin 4).val) q f ∗ Pp c (hK r (1 : Fin 4).val) q f ∗ Pp c (hK r (2 : Fin 4).val) q f ∗ Pp c (hK r (3 : Fin 4).val) q f) :=
  pts_four (ℓ := (c : Thread nD τ).loc cc0_scratch2) (hB 0 r) (fun k => hK r k.val)
    (fun (i : S2x2048x512.Idx) => by
      rw [mem_hB]; have h : (i 2).val < 512 := (i 2).isLt
      refine ⟨fun h0 => ⟨⟨(i 2).val / 128, by omega⟩, ?_⟩, fun ⟨k, hk⟩ => ?_⟩
      · rw [mem_hK]; dsimp only; omega
      · rw [mem_hK] at hk; exact ⟨hk.1, hk.2.1⟩)
    (fun (i : S2x2048x512.Idx) k k' h h' => by rw [mem_hK] at h h'; exact Fin.ext (by omega))
/-- The landing buffer is its four slots. -/
theorem z_split (f : S4x1024x512.Idx → Elt F .f32) : Pz c Finset.univ q f = iprop(Pz c (s4B (0 : Fin 4).val) q f ∗ Pz c (s4B (1 : Fin 4).val) q f ∗ Pz c (s4B (2 : Fin 4).val) q f ∗ Pz c (s4B (3 : Fin 4).val) q f) :=
  pts_four (ℓ := (c : Thread nD τ).loc cc0_scratch3) Finset.univ (fun k => s4B k.val)
    (fun (i : S4x1024x512.Idx) => ⟨fun _ => ⟨⟨(i 0).val, (i 0).isLt⟩, by rw [mem_s4B]⟩, fun _ => Finset.mem_univ _⟩)
    (fun (i : S4x1024x512.Idx) k k' h h' => by rw [mem_s4B] at h h'; exact Fin.ext (by omega))
/-- Its slot 0 is four column groups. -/
theorem z_cols (f : S4x1024x512.Idx → Elt F .f32) : Pz c (s4B (0 : Fin 4).val) q f = iprop(Pz c (zK (0 : Fin 4).val) q f ∗ Pz c (zK (1 : Fin 4).val) q f ∗ Pz c (zK (2 : Fin 4).val) q f ∗ Pz c (zK (3 : Fin 4).val) q f) :=
  pts_four (ℓ := (c : Thread nD τ).loc cc0_scratch3) (s4B 0) (fun k => zK k.val)
    (fun (i : S4x1024x512.Idx) => by
      rw [mem_s4B]; have h : (i 2).val < 512 := (i 2).isLt
      refine ⟨fun h0 => ⟨⟨(i 2).val / 128, by omega⟩, ?_⟩, fun ⟨k, hk⟩ => ?_⟩
      · rw [mem_zK]; dsimp only; omega
      · rw [mem_zK] at hk; exact hk.1)
    (fun (i : S4x1024x512.Idx) k k' h h' => by rw [mem_zK] at h h'; exact Fin.ext (by omega))
/-- The sums' buffer is its four slots. -/
theorem s_split (f : S4x1024x512.Idx → Elt F .f32) : Ps c Finset.univ q f = iprop(Ps c (s4B (0 : Fin 4).val) q f ∗ Ps c (s4B (1 : Fin 4).val) q f ∗ Ps c (s4B (2 : Fin 4).val) q f ∗ Ps c (s4B (3 : Fin 4).val) q f) :=
  pts_four (ℓ := (c : Thread nD τ).loc cc0_scratch4) Finset.univ (fun k => s4B k.val)
    (fun (i : S4x1024x512.Idx) => ⟨fun _ => ⟨⟨(i 0).val, (i 0).isLt⟩, by rw [mem_s4B]⟩, fun _ => Finset.mem_univ _⟩)
    (fun (i : S4x1024x512.Idx) k k' h h' => by rw [mem_s4B] at h h'; exact Fin.ext (by omega))
/-- The forwarded blocks' buffers are their two slots. -/
theorem fx_split (f : S2x1024x512.Idx → Elt F .f32) : Pfx c Finset.univ q f = iprop(Pfx c (fB (0 : Fin 2).val) q f ∗ Pfx c (fB (1 : Fin 2).val) q f) :=
  pts_two (ℓ := (c : Thread nD τ).loc cc0_scratch5) Finset.univ (fB 0) (fB 1)
    (fun (i : S2x1024x512.Idx) => by rw [mem_fB, mem_fB]; have h : (i 0).val < 2 := (i 0).isLt; refine ⟨fun _ => by omega, fun _ => Finset.mem_univ _⟩)
    (fun (i : S2x1024x512.Idx) h h' => by rw [mem_fB] at h h'; omega)
/-- The y forwarding buffer is its two slots. -/
theorem fy_split (f : S2x1024x512.Idx → Elt F .f32) : Pfy c Finset.univ q f = iprop(Pfy c (fB (0 : Fin 2).val) q f ∗ Pfy c (fB (1 : Fin 2).val) q f) :=
  pts_two (ℓ := (c : Thread nD τ).loc cc0_scratch6) Finset.univ (fB 0) (fB 1)
    (fun (i : S2x1024x512.Idx) => by rw [mem_fB, mem_fB]; have h : (i 0).val < 2 := (i 0).isLt; refine ⟨fun _ => by omega, fun _ => Finset.mem_univ _⟩)
    (fun (i : S2x1024x512.Idx) h h' => by rw [mem_fB] at h h'; omega)

/-- The columns of `dy` outside device `c`'s group. -/
def dR (c : Dev nD) : Finset S2048x8192.Idx := Finset.univ.filter fun i => ¬(gcol c ≤ (i 1).val ∧ (i 1).val < gcol c + 2048)
/-- A device's column group of `dy`. -/
def dG (c : Dev nD) : Finset S2048x8192.Idx := Finset.univ.filter fun i => gcol c ≤ (i 1).val ∧ (i 1).val < gcol c + 2048
/-- `dy` is the four blocks a device copies in, and the rest. -/
theorem d_split (f : S2048x8192.Idx → Elt F .f32) : Pd c Finset.univ q f
    = iprop((Pd c (dB (gcol c + 512 * (0 : Fin 4).val)) q f ∗ Pd c (dB (gcol c + 512 * (1 : Fin 4).val)) q f ∗ Pd c (dB (gcol c + 512 * (2 : Fin 4).val)) q f ∗ Pd c (dB (gcol c + 512 * (3 : Fin 4).val)) q f) ∗ Pd c (dR c) q f) := by
  refine Eq.trans ?_ (congrArg (fun P : sProp 𝕄 => iprop(P ∗ Pd c (dR c) q f)) (pts_four (ℓ := (c : Thread nD τ).loc main_arg1) (dG c) (fun k => dB (gcol c + 512 * k.val))
    (fun (i : S2048x8192.Idx) => by
      rw [dG, Finset.mem_filter]
      refine ⟨fun h0 => ⟨⟨((i 1).val - gcol c) / 512, by omega⟩, ?_⟩, fun ⟨k, hk⟩ => ⟨Finset.mem_univ _, ?_⟩⟩
      · rw [mem_dB]; dsimp only; omega
      · rw [mem_dB] at hk; have := k.isLt; omega)
    (fun (i : S2048x8192.Idx) k k' h h' => by rw [mem_dB] at h h'; exact Fin.ext (by omega))))
  exact pts_two (ℓ := (c : Thread nD τ).loc main_arg1) Finset.univ (dG c) (dR c)
    (fun (i : S2048x8192.Idx) => by rw [dG, dR, Finset.mem_filter, Finset.mem_filter]; exact ⟨fun _ => (em _).imp (⟨Finset.mem_univ _, ·⟩) (⟨Finset.mem_univ _, ·⟩), fun _ => Finset.mem_univ _⟩)
    (fun (i : S2048x8192.Idx) h h' => by rw [dG, Finset.mem_filter] at h; rw [dR, Finset.mem_filter] at h'; exact h'.2 h.2)

/-- A device's column group of the result. -/
def oG (n : Dev nD) : Finset S1024x8192.Idx := Finset.univ.filter fun i => gcol n ≤ (i 1).val ∧ (i 1).val < gcol n + 2048
/-- What is in `oG`. -/
theorem mem_oG (n : Dev nD) (i : S1024x8192.Idx) : i ∈ oG n ↔ gcol n ≤ (i 1).val ∧ (i 1).val < gcol n + 2048 := by rw [oG, Finset.mem_filter]; exact ⟨fun h => h.2, fun h => ⟨Finset.mem_univ _, h⟩⟩

/-- A group is its four blocks. -/
theorem og_split (n : Dev nD) (f : S1024x8192.Idx → Elt F .f32) : Po c (oG n) q f
    = iprop(Po c (oB (gcol n + 512 * (0 : Fin 4).val)) q f ∗ Po c (oB (gcol n + 512 * (1 : Fin 4).val)) q f ∗ Po c (oB (gcol n + 512 * (2 : Fin 4).val)) q f ∗ Po c (oB (gcol n + 512 * (3 : Fin 4).val)) q f) :=
  pts_four (ℓ := (c : Thread nD τ).loc main_v1) (oG n) (fun k => oB (gcol n + 512 * k.val))
    (fun (i : S1024x8192.Idx) => by
      rw [mem_oG]
      refine ⟨fun h0 => ⟨⟨((i 1).val - gcol n) / 512, by omega⟩, ?_⟩, fun ⟨k, hk⟩ => ?_⟩
      · rw [mem_oB]; dsimp only; omega
      · rw [mem_oB] at hk; have := k.isLt; omega)
    (fun (i : S1024x8192.Idx) k k' h h' => by rw [mem_oB] at h h'; exact Fin.ext (by omega))

/-- The device of `c`'s plane, by which neighbours lie between. -/
def pl (c : Dev nD) (k : Fin 4) : Dev nD := match k with | 0 => c | 1 => xN c | 2 => yN c | 3 => xN (yN c)
/-- Every column group is some device's of the plane. -/
theorem gcol_pl_cover (c : Dev nD) (g : Fin 4) : ∃ k, gcol (pl c k) = 2048 * g.val := by revert c g; decide
/-- Two devices of a plane have different column groups. -/
theorem gcol_pl_inj (c : Dev nD) (k k' : Fin 4) (g : Fin 4) (h : gcol (pl c k) = 2048 * g.val) (h' : gcol (pl c k') = 2048 * g.val) : k = k' := by revert c k k' g; decide
/-- A device's column group has a number. -/
theorem gcol_num (c : Dev nD) : ∃ g : Fin 4, gcol c = 2048 * g.val := by revert c; decide

/-- The result is the four groups of a plane. -/
theorem o_groups (f : S1024x8192.Idx → Elt F .f32) : Po c Finset.univ q f = iprop(Po c (oG c) q f ∗ Po c (oG (xN c)) q f ∗ Po c (oG (yN c)) q f ∗ Po c (oG (xN (yN c))) q f) :=
  pts_four (ℓ := (c : Thread nD τ).loc main_v1) Finset.univ (fun k => oG (pl c k))
    (fun (i : S1024x8192.Idx) => by
      have h : (i 1).val < 8192 := (i 1).isLt
      obtain ⟨k, hk⟩ := gcol_pl_cover c ⟨(i 1).val / 2048, by omega⟩
      refine ⟨fun _ => ⟨k, ?_⟩, fun _ => Finset.mem_univ _⟩
      rw [mem_oG, hk]; dsimp only; omega)
    (fun (i : S1024x8192.Idx) k k' h h' => by
      rw [mem_oG] at h h'
      obtain ⟨g, hg⟩ := gcol_num (pl c k)
      obtain ⟨g', hg'⟩ := gcol_num (pl c k')
      have e : g = g' := Fin.ext (by rw [hg] at h; rw [hg'] at h'; omega)
      subst e
      exact gcol_pl_inj c k k' g hg hg')

end

end Cert.KernelIdeal.Own

end
-- ==== Proof.Ops.lean ====
/-
The rule of each family of the body's operations, at the device, block and slot it is used for.
-/
module

public import proofs.«01_k».proof.Proof.Steps
public import proofs.«01_k».proof.Proof.Regions

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The x neighbour is in the same plane. -/
theorem xN_mod (c : Dev nD) : c.val % 2 = (xN c).val % 2 := by revert c; decide
/-- The y neighbour is in the same plane. -/
theorem yN_mod (c : Dev nD) : c.val % 2 = (yN c).val % 2 := by revert c; decide
/-- The last two stores of forwarded sums are not among the first two. -/
theorem fc_ge (f : Fin 2) : ¬(2 + f.castLE (by decide) : Fin 4).val < 2 := by revert f; decide
/-- The last two, counted from there. -/
theorem fc_sub (f : Fin 2) : (2 + f.castLE (by decide) : Fin 4).val - 2 = f.val := by revert f; decide

/-- Everything owed is of a positive level. -/
theorem owed_low (i : ℕ) (n : ℕ) (hn : n = 0) : ∀ p ∈ owed.drop i, n < lvS p.2.1 := by
  subst hn
  have h : ∀ p ∈ owed, 0 < lvS p.2.1 := by decide
  exact fun p hp => h p (List.mem_of_mem_drop hp)

/-! ## The cells by name -/

/-- The semaphore of the copy of `x`. -/
abbrev sX : SemLoc sig := .dma cc0_scratch24.sem
/-- The semaphore of the copies of `dy` into slot `s`. -/
abbrev sDy (s : Fin 2) : SemLoc sig := .dma (sem2 cc0_scratch7 s)
/-- The semaphore of the sending of block `b` to the z neighbour. -/
abbrev sZs (b : Fin 4) : SemLoc sig := .dma (sem4 cc0_scratch8 b)
/-- The semaphore of the arrival of block `b` from the z neighbour. -/
abbrev sZr (b : Fin 4) : SemLoc sig := .dma (sem4 cc0_scratch9 b)
/-- The semaphore of the sending of piece `b` of block 0 to the z neighbour. -/
abbrev sZ0s (b : Fin 4) : SemLoc sig := .dma (sem4 cc0_scratch10 b)
/-- The semaphore of the arrival of piece `b` of block 0 from the z neighbour. -/
abbrev sZ0r (b : Fin 4) : SemLoc sig := .dma (sem4 cc0_scratch11 b)
/-- The semaphore of the sending of sum `b` along x. -/
abbrev sPx (b : Fin 4) : SemLoc sig := .dma (sem4 cc0_scratch12 b)
/-- The semaphore of the sending of sum `b` along y. -/
abbrev sPy (b : Fin 4) : SemLoc sig := .dma (sem4 cc0_scratch13 b)
/-- The semaphore of the forwarding along x of slot `f`. -/
abbrev sFx (f : Fin 2) : SemLoc sig := .dma (sem2 cc0_scratch14 f)
/-- The semaphore of the forwarding along y of slot `f`. -/
abbrev sFy (f : Fin 2) : SemLoc sig := .dma (sem2 cc0_scratch15 f)
/-- The semaphore of the x neighbour's sum that arrives in the result. -/
abbrev sXo (f : Fin 2) : SemLoc sig := .dma (sem2 cc0_scratch16 f)
/-- The semaphore of the x neighbour's sum that arrives to be forwarded. -/
abbrev sXf (f : Fin 2) : SemLoc sig := .dma (sem2 cc0_scratch17 f)
/-- The semaphore of the diagonal device's sum that arrives over x. -/
abbrev sXd (f : Fin 2) : SemLoc sig := .dma (sem2 cc0_scratch18 f)
/-- The semaphore of the y neighbour's sum that arrives in the result. -/
abbrev sYo (f : Fin 2) : SemLoc sig := .dma (sem2 cc0_scratch19 f)
/-- The semaphore of the y neighbour's sum that arrives to be forwarded. -/
abbrev sYf (f : Fin 2) : SemLoc sig := .dma (sem2 cc0_scratch20 f)
/-- The semaphore of the diagonal device's sum that arrives over y. -/
abbrev sYd (f : Fin 2) : SemLoc sig := .dma (sem2 cc0_scratch21 f)
/-- The semaphore of the store of sum `b` into the result. -/
abbrev sSt (b : Fin 4) : SemLoc sig := .dma (sem4 cc0_scratch22 b)
/-- The semaphore of the store of a forwarded sum into the result. -/
abbrev sFc (b : Fin 4) : SemLoc sig := .dma (sem4 cc0_scratch23 b)
/-- The barrier semaphore. -/
abbrev sBar : SemLoc sig := .reg barS

/-! ## Copies within the device -/

/-- The copy of `x` starts. -/
theorem xStart_spec (fd : S2048x2048.Idx → Elt F .f32) (Q : PUnit → sProp 𝕄) :
    iprop(env m K ∗ rdy c (.dma cc0_scratch24.sem) 0 ∗ Px c Finset.univ fullShare (xC m c) ∗ Pxv c Finset.univ fullShare fd)
      ⊢ iprop((pend c (.dma cc0_scratch24.sem) 0 NX -∗ Q ⟨⟩) -∗ WP c xStart Q) :=
  gcopy m K (Memref.whole main_arg0) (Memref.whole cc0_scratch0) cc0_scratch24.sem c 0 NX .x dec_x Nat.one_pos rfl rfl
    (View.set_whole _) (View.set_whole _) fullShare (xC m c) fd (xC m c) (fun j => rfl) (BI.Entails.refl _) Q

/-- The copy of block `b` of `dy` starts, in round `R` of slot `s`. -/
theorem dyStart_spec (b : Fin 4) (s : Fin 2) (R : ℕ) (hR : R < 2) (hb : blk s R = b) (fd : S2x2048x512.Idx → Elt F .f32) (Q : PUnit → sProp 𝕄) :
    iprop(env m K ∗ rdy c (.dma (sem2 cc0_scratch7 s)) R ∗ Pd c (dB (gcol c + 512 * b.val)) fullShare (dyAt m c) ∗ Pdv c (s2B s.val) fullShare fd)
      ⊢ iprop((pend c (.dma (sem2 cc0_scratch7 s)) R ND -∗ Q ⟨⟩) -∗ WP c (dyStart c b s) Q) := by
  subst hb
  exact gcopy m K (vDy (k0_off1 c (BitVec.ofNat 32 (512 * (blk s R).val))) (k0_off1_inb c (blk s R))) (vDv s) _ c R ND (.dy s) (dec_dy s) hR rfl rfl
    (set_vDy _ _ _ (off1_at c _)) (set_vDv s) fullShare (dyAt m c) fd (dvC m c (blk s R)) (read_dy m c _ s _ _ (off1_at c _)) (BI.Entails.refl _) Q

/-- A finished sum's slot is copied to the result. -/
theorem stCopy_spec (b : Fin 4) (off : Fin 2 → ℕ) (h) (ho : off = ![0, gcol c + 512 * b.val]) (fd : S1024x8192.Idx → Elt F .f32) (Q : PUnit → sProp 𝕄) :
    iprop(env m K ∗ rdy c (.dma (sem4 cc0_scratch22 b)) 0 ∗ Ps c (s4B b.val) q0 (sC m c) ∗ Po c (oB (gcol c + 512 * b.val)) fullShare fd)
      ⊢ iprop((pend c (.dma (sem4 cc0_scratch22 b)) 0 NB -∗ Q ⟨⟩) -∗ WP c (outCopy (vS b) (weS b) off h (sem4 cc0_scratch22 b)) Q) :=
  gcopy m K (vS b) (vOut off h) _ c 0 NB (.st b) (dec_st b) Nat.one_pos rfl rfl (set_vS b) (set_vOut off h _ ho) q0 (sC m c) fd (outC m c)
    (fun j => (read_vS m c b j).trans (read_vOut m c c rfl b off h ho j).symm) (BI.Entails.refl _) Q

/-- A block the x neighbour forwarded is copied to the result. -/
theorem fxCopy_spec (f : Fin 2) (b : Fin 4) (hb : b = ⟨2 + f.val, by omega⟩) (sm : DmaSem sig) (hsm : sm = sem4 cc0_scratch23 (f.castLE (by decide))) (off : Fin 2 → ℕ) (h) (ho : off = ![0, gcol (xN c) + 512 * b.val]) (fd : S1024x8192.Idx → Elt F .f32) (Q : PUnit → sProp 𝕄) :
    iprop(env m K ∗ rdy c (.dma sm) 0 ∗ Pfx c (fB f.val) fullShare.right (fxC m c) ∗ Po c (oB (gcol (xN c) + 512 * b.val)) fullShare fd)
      ⊢ iprop((pend c (.dma sm) 0 NB -∗ Q ⟨⟩) -∗ WP c (outCopy (vFx f) (weFx f) off h sm) Q) := by
  subst hsm hb
  exact gcopy m K (vFx f) (vOut off h) _ c 0 NB (.fc (f.castLE (by decide))) (dec_fc _) Nat.one_pos rfl rfl (set_vFx f) (set_vOut off h _ ho) fullShare.right (fxC m c) fd (outC m c)
    (fun j => (read_vFx m c f j).trans (read_vOut m c (xN c) (xN_mod c) ⟨2 + f.val, by omega⟩ off h ho j).symm)
    (by rw [pay, if_pos (show (f.castLE (by decide) : Fin 4).val < 2 from f.isLt)]; exact BI.Entails.refl _) Q

/-- A block the y neighbour forwarded is copied to the result. -/
theorem fyCopy_spec (f : Fin 2) (b : Fin 4) (hb : b = ⟨f.val, by omega⟩) (sm : DmaSem sig) (hsm : sm = sem4 cc0_scratch23 (2 + f.castLE (by decide))) (off : Fin 2 → ℕ) (h) (ho : off = ![0, gcol (yN c) + 512 * b.val]) (fd : S1024x8192.Idx → Elt F .f32) (Q : PUnit → sProp 𝕄) :
    iprop(env m K ∗ rdy c (.dma sm) 0 ∗ Pfy c (fB f.val) fullShare.right (fyC m c) ∗ Po c (oB (gcol (yN c) + 512 * b.val)) fullShare fd)
      ⊢ iprop((pend c (.dma sm) 0 NB -∗ Q ⟨⟩) -∗ WP c (outCopy (vFy f) (weFy f) off h sm) Q) := by
  subst hsm hb
  exact gcopy m K (vFy f) (vOut off h) _ c 0 NB (.fc (2 + f.castLE (by decide))) (dec_fc _) Nat.one_pos rfl rfl (set_vFy f) (set_vOut off h _ ho) fullShare.right (fyC m c) fd (outC m c)
    (fun j => (read_vFy m c f j).trans (read_vOut m c (yN c) (yN_mod c) ⟨f.val, by omega⟩ off h ho j).symm)
    (by rw [pay, if_neg (fc_ge f), fc_sub f]) Q

/-! ## Transfers -/

/-- 128 columns of the half the z neighbour sums leave. -/
theorem zkSend_spec (k : Fin 4) (n : Dev nD) (hn : n = zN c) (off : Fin 3 → ℕ) (h) (ho : off = ![0, hiP c, 128 * k.val]) (i : ℕ)
    (hi : owed.drop i = (0, .dma (sem4 cc0_scratch11 k), NK) :: owed.drop (i + 1)) (fd : S4x1024x512.Idx → Elt F .f32) (Q : PUnit → sProp 𝕄) :
    iprop(env m K ∗ rdy c (.dma (sem4 cc0_scratch10 k)) 0 ∗ tok (zN c) (.dma (sem4 cc0_scratch11 k)) ∗ Pp c (hK (hiP c) k.val) fullShare (PC m c 0) ∗ Pz (zN c) (zK k.val) fullShare fd ∗ ow c i)
      ⊢ iprop(((pend c (.dma (sem4 cc0_scratch10 k)) 0 NK ∗ ow c (i + 1)) -∗ Q ⟨⟩) -∗ WP c (zkSend n off h k) Q) := by
  subst hn
  exact gsend m K (vHalfK off h) (vZK k) _ _ (zN c) c i 0 NK hi rfl (.z0s k) (.z0r k) (dec_z0s k) (dec_z0r k) Nat.one_pos Nat.one_pos rfl rfl rfl
    (set_vHalfK off h _ _ ho) (set_vZK k) fullShare (PC m c 0) fd (zW m (zN c)) (read_zk m c k off h ho) (BI.Entails.refl _) (BI.Entails.refl _) Q

/-- The half the z neighbour sums leaves. -/
theorem zSend_spec (b : Fin 4) (hb : b ≠ 0) (s : Fin 2) (hs : s.val = slot b) (n : Dev nD) (hn : n = zN c) (off : Fin 3 → ℕ) (h) (ho : off = ![s.val, hiP c, 0]) (i : ℕ)
    (hi : owed.drop i = (0, .dma (sem4 cc0_scratch9 b), NB) :: owed.drop (i + 1)) (fd : S4x1024x512.Idx → Elt F .f32) (Q : PUnit → sProp 𝕄) :
    iprop(env m K ∗ rdy c (.dma (sem4 cc0_scratch8 b)) 0 ∗ tok (zN c) (.dma (sem4 cc0_scratch9 b)) ∗ Pp c (hB s.val (hiP c)) fullShare (PC m c b) ∗ Pz (zN c) (s4B b.val) fullShare fd ∗ ow c i)
      ⊢ iprop(((pend c (.dma (sem4 cc0_scratch8 b)) 0 NB ∗ ow c (i + 1)) -∗ Q ⟨⟩) -∗ WP c (zSend n off h b) Q) := by
  subst hn
  exact gsend m K (vHalf off h) (vZ b) _ _ (zN c) c i 0 NB hi rfl (.zs b) (.zr b) (dec_zs b) (dec_zr b) (by rw [rounds, if_neg hb]; exact Nat.one_pos) (by rw [rounds, if_neg hb]; exact Nat.one_pos) rfl rfl rfl
    (set_vHalf off h _ _ ho) (set_vZ b) fullShare (PC m c b) fd (zW m (zN c)) (read_z m c b s off h ho) (by rw [pay, ← hs]) (BI.Entails.refl _) Q

/-- A finished sum's block leaves for the x neighbour's result. -/
theorem xoSend_spec (f : Fin 2) (b : Fin 4) (hb : b.val = f.val) (n : Dev nD) (hn : n = xN c) (off : Fin 2 → ℕ) (h) (ho : off = ![0, gcol c + 512 * b.val]) (i : ℕ)
    (hi : owed.drop i = (1, .dma (sem2 cc0_scratch16 f), NB) :: owed.drop (i + 1)) (fd : S1024x8192.Idx → Elt F .f32) (Q : PUnit → sProp 𝕄) :
    iprop(env m K ∗ rdy c (.dma (sem4 cc0_scratch12 b)) 0 ∗ tok (xN c) (.dma (sem2 cc0_scratch16 f)) ∗ Ps c (s4B b.val) q1 (sC m c) ∗ Po (xN c) (oB (gcol c + 512 * b.val)) fullShare fd ∗ ow c i)
      ⊢ iprop(((pend c (.dma (sem4 cc0_scratch12 b)) 0 NB ∗ ow c (i + 1)) -∗ Q ⟨⟩) -∗ WP c (outSend (vS b) (weS b) n off h (sem4 cc0_scratch12 b) (sem2 cc0_scratch16 f)) Q) := by
  subst hn
  exact gsend m K (vS b) (vOut off h) _ _ (xN c) c i 1 NB hi rfl (.psx b) (.xo f) (dec_psx b) (dec_xo f) Nat.one_pos Nat.one_pos rfl rfl rfl
    (set_vS b) (set_vOut off h _ ho) q1 (sC m c) fd (outC m (xN c)) (fun j => (read_vS m c b j).trans (read_vOut m (xN c) c (xN_mod c).symm b off h ho j).symm)
    (BI.Entails.refl _) (by rw [pay, xN_xN, hb]) Q

/-- A finished sum's block leaves for the y neighbour's result. -/
theorem yoSend_spec (f : Fin 2) (b : Fin 4) (hb : b.val = 2 + f.val) (n : Dev nD) (hn : n = yN c) (off : Fin 2 → ℕ) (h) (ho : off = ![0, gcol c + 512 * b.val]) (i : ℕ)
    (hi : owed.drop i = (2, .dma (sem2 cc0_scratch19 f), NB) :: owed.drop (i + 1)) (fd : S1024x8192.Idx → Elt F .f32) (Q : PUnit → sProp 𝕄) :
    iprop(env m K ∗ rdy c (.dma (sem4 cc0_scratch13 b)) 0 ∗ tok (yN c) (.dma (sem2 cc0_scratch19 f)) ∗ Ps c (s4B b.val) q2 (sC m c) ∗ Po (yN c) (oB (gcol c + 512 * b.val)) fullShare fd ∗ ow c i)
      ⊢ iprop(((pend c (.dma (sem4 cc0_scratch13 b)) 0 NB ∗ ow c (i + 1)) -∗ Q ⟨⟩) -∗ WP c (outSend (vS b) (weS b) n off h (sem4 cc0_scratch13 b) (sem2 cc0_scratch19 f)) Q) := by
  subst hn
  exact gsend m K (vS b) (vOut off h) _ _ (yN c) c i 2 NB hi rfl (.psy b) (.yo f) (dec_psy b) (dec_yo f) Nat.one_pos Nat.one_pos rfl rfl rfl
    (set_vS b) (set_vOut off h _ ho) q2 (sC m c) fd (outC m (yN c)) (fun j => (read_vS m c b j).trans (read_vOut m (yN c) c (yN_mod c).symm b off h ho j).symm)
    (BI.Entails.refl _) (by rw [pay, yN_yN, hb]) Q

/-- A finished sum's block leaves for the y neighbour, to be forwarded. -/
theorem yfSend_spec (f : Fin 2) (b : Fin 4) (hb : b = ⟨f.val, by omega⟩) (n : Dev nD) (hn : n = yN c) (i : ℕ)
    (hi : owed.drop i = (2, .dma (sem2 cc0_scratch20 f), NB) :: owed.drop (i + 1)) (fd : S2x1024x512.Idx → Elt F .f32) (Q : PUnit → sProp 𝕄) :
    iprop(env m K ∗ rdy c (.dma (sem4 cc0_scratch13 b)) 0 ∗ tok (yN c) (.dma (sem2 cc0_scratch20 f)) ∗ Ps c (s4B b.val) q2 (sC m c) ∗ Pfy (yN c) (fB f.val) fullShare fd ∗ ow c i)
      ⊢ iprop(((pend c (.dma (sem4 cc0_scratch13 b)) 0 NB ∗ ow c (i + 1)) -∗ Q ⟨⟩) -∗ WP c (fwdSend (vS b) (weS b) n (vFy f) (weFy f) rfl (sem4 cc0_scratch13 b) (sem2 cc0_scratch20 f)) Q) := by
  subst hn
  exact gsend m K (vS b) (vFy f) _ _ (yN c) c i 2 NB hi rfl (.psy b) (.yf f) (dec_psy b) (dec_yf f) Nat.one_pos Nat.one_pos rfl rfl rfl
    (set_vS b) (set_vFy f) q2 (sC m c) fd (fyC m (yN c)) (fun j => (read_vS m c b j).trans ((read_vFy m (yN c) f j).trans (by rw [yN_yN, hb])).symm)
    (BI.Entails.refl _) (BI.Entails.refl _) Q

/-- A finished sum's block leaves for the x neighbour, to be forwarded. -/
theorem xfSend_spec (f : Fin 2) (b : Fin 4) (hb : b = ⟨2 + f.val, by omega⟩) (n : Dev nD) (hn : n = xN c) (i : ℕ)
    (hi : owed.drop i = (1, .dma (sem2 cc0_scratch17 f), NB) :: owed.drop (i + 1)) (fd : S2x1024x512.Idx → Elt F .f32) (Q : PUnit → sProp 𝕄) :
    iprop(env m K ∗ rdy c (.dma (sem4 cc0_scratch12 b)) 0 ∗ tok (xN c) (.dma (sem2 cc0_scratch17 f)) ∗ Ps c (s4B b.val) q1 (sC m c) ∗ Pfx (xN c) (fB f.val) fullShare fd ∗ ow c i)
      ⊢ iprop(((pend c (.dma (sem4 cc0_scratch12 b)) 0 NB ∗ ow c (i + 1)) -∗ Q ⟨⟩) -∗ WP c (fwdSend (vS b) (weS b) n (vFx f) (weFx f) rfl (sem4 cc0_scratch12 b) (sem2 cc0_scratch17 f)) Q) := by
  subst hn
  exact gsend m K (vS b) (vFx f) _ _ (xN c) c i 1 NB hi rfl (.psx b) (.xf f) (dec_psx b) (dec_xf f) Nat.one_pos Nat.one_pos rfl rfl rfl
    (set_vS b) (set_vFx f) q1 (sC m c) fd (fxC m (xN c)) (fun j => (read_vS m c b j).trans ((read_vFx m (xN c) f j).trans (by rw [xN_xN, hb])).symm)
    (BI.Entails.refl _) (BI.Entails.refl _) Q

/-- The x neighbour's block leaves for the y neighbour's result. -/
theorem ydSend_spec (f : Fin 2) (b : Fin 4) (hb : b = ⟨2 + f.val, by omega⟩) (n : Dev nD) (hn : n = yN c) (off : Fin 2 → ℕ) (h) (ho : off = ![0, gcol (xN c) + 512 * b.val]) (i : ℕ)
    (hi : owed.drop i = (2, .dma (sem2 cc0_scratch21 f), NB) :: owed.drop (i + 1)) (fd : S1024x8192.Idx → Elt F .f32) (Q : PUnit → sProp 𝕄) :
    iprop(env m K ∗ rdy c (.dma (sem2 cc0_scratch15 f)) 0 ∗ tok (yN c) (.dma (sem2 cc0_scratch21 f)) ∗ Pfx c (fB f.val) fullShare.left (fxC m c) ∗ Po (yN c) (oB (gcol (xN c) + 512 * b.val)) fullShare fd ∗ ow c i)
      ⊢ iprop(((pend c (.dma (sem2 cc0_scratch15 f)) 0 NB ∗ ow c (i + 1)) -∗ Q ⟨⟩) -∗ WP c (outSend (vFx f) (weFx f) n off h (sem2 cc0_scratch15 f) (sem2 cc0_scratch21 f)) Q) := by
  subst hn hb
  exact gsend m K (vFx f) (vOut off h) _ _ (yN c) c i 2 NB hi rfl (.fsy f) (.yd f) (dec_fsy f) (dec_yd f) Nat.one_pos Nat.one_pos rfl rfl rfl
    (set_vFx f) (set_vOut off h _ ho) fullShare.left (fxC m c) fd (outC m (yN c))
    (fun j => (read_vFx m c f j).trans (read_vOut m (yN c) (xN c) ((yN_mod c).symm.trans (xN_mod c)) ⟨2 + f.val, by omega⟩ off h ho j).symm)
    (BI.Entails.refl _) (by rw [pay, yN_yN]) Q

/-- The y neighbour's block leaves for the x neighbour's result. -/
theorem xdSend_spec (f : Fin 2) (b : Fin 4) (hb : b = ⟨f.val, by omega⟩) (n : Dev nD) (hn : n = xN c) (off : Fin 2 → ℕ) (h) (ho : off = ![0, gcol (yN c) + 512 * b.val]) (i : ℕ)
    (hi : owed.drop i = (1, .dma (sem2 cc0_scratch18 f), NB) :: owed.drop (i + 1)) (fd : S1024x8192.Idx → Elt F .f32) (Q : PUnit → sProp 𝕄) :
    iprop(env m K ∗ rdy c (.dma (sem2 cc0_scratch14 f)) 0 ∗ tok (xN c) (.dma (sem2 cc0_scratch18 f)) ∗ Pfy c (fB f.val) fullShare.left (fyC m c) ∗ Po (xN c) (oB (gcol (yN c) + 512 * b.val)) fullShare fd ∗ ow c i)
      ⊢ iprop(((pend c (.dma (sem2 cc0_scratch14 f)) 0 NB ∗ ow c (i + 1)) -∗ Q ⟨⟩) -∗ WP c (outSend (vFy f) (weFy f) n off h (sem2 cc0_scratch14 f) (sem2 cc0_scratch18 f)) Q) := by
  subst hn hb
  exact gsend m K (vFy f) (vOut off h) _ _ (xN c) c i 1 NB hi rfl (.fsx f) (.xd f) (dec_fsx f) (dec_xd f) Nat.one_pos Nat.one_pos rfl rfl rfl
    (set_vFy f) (set_vOut off h _ ho) fullShare.left (fyC m c) fd (outC m (xN c))
    (fun j => (read_vFy m c f j).trans (read_vOut m (xN c) (yN c) ((xN_mod c).symm.trans (yN_mod c)) ⟨f.val, by omega⟩ off h ho j).symm)
    (BI.Entails.refl _) (by rw [pay, xN_yN, xN_xN]) Q

/-! ## Waits -/

/-- A block of `dy` has landed. -/
theorem dyWait_spec (b : Fin 4) (s : Fin 2) (R R' : ℕ) (hR : R < 2) (hR' : R' = R + 1) (hb : blk s R = b) (i : ℕ) (Q : PUnit → sProp 𝕄) :
    iprop(env m K ∗ pend c (sDy s) R ND ∗ ow c i)
      ⊢ iprop(((ow c i ∗ done c (sDy s) R' ∗ Pdv c (s2B s.val) fullShare (dvC m c b) ∗ Pd c (dB (gcol c + 512 * b.val)) fullShare (dyAt m c)) -∗ Q ⟨⟩) -∗ WP c (dyWait c b s) Q) := by
  subst hb hR'
  exact gwait m K _ _ (vDv s) c R ND i (.dy s) (dec_dy s) hR rfl rfl (owed_low i _ rfl) Q
/-- `x` has landed. -/
theorem xWait_spec (i : ℕ) (Q : PUnit → sProp 𝕄) :
    iprop(env m K ∗ pend c sX 0 NX ∗ ow c i)
      ⊢ iprop(((ow c i ∗ done c sX 1 ∗ Pxv c Finset.univ fullShare (xC m c) ∗ Px c Finset.univ fullShare (xC m c)) -∗ Q ⟨⟩) -∗ WP c xWait Q) :=
  gwait m K _ _ (Memref.whole cc0_scratch0) c 0 NX i .x dec_x Nat.one_pos rfl rfl (owed_low i _ rfl) Q
/-- 128 columns from the z neighbour have landed. -/
theorem zkWaitR_spec (off : Fin 3 → ℕ) (h) (k : Fin 4) (i : ℕ) (hl : ∀ p ∈ owed.drop i, 2 < lvS p.2.1) (Q : PUnit → sProp 𝕄) :
    iprop(env m K ∗ pend c (sZ0r k) 0 NK ∗ ow c i)
      ⊢ iprop(((ow c i ∗ done c (sZ0r k) 1 ∗ Pz c (zK k.val) fullShare (zW m c)) -∗ Q ⟨⟩) -∗ WP c (zkWaitR off h k) Q) :=
  gwait m K _ _ (vZK k) c 0 NK i (.z0r k) (dec_z0r k) Nat.one_pos rfl rfl hl Q
/-- 128 columns have left. -/
theorem zkWaitS_spec (off : Fin 3 → ℕ) (h) (k : Fin 4) (i : ℕ) (Q : PUnit → sProp 𝕄) :
    iprop(env m K ∗ pend c (sZ0s k) 0 NK ∗ ow c i)
      ⊢ iprop(((ow c i ∗ done c (sZ0s k) 1 ∗ Pp c (hK (hiP c) k.val) fullShare (PC m c 0)) -∗ Q ⟨⟩) -∗ WP c (zkWaitS off h k) Q) :=
  gwait m K _ _ (vHalfK off h) c 0 NK i (.z0s k) (dec_z0s k) Nat.one_pos rfl rfl (owed_low i _ rfl) Q
/-- A half from the z neighbour has landed. -/
theorem zWaitR_spec (off : Fin 3 → ℕ) (h) (b : Fin 4) (hb : b ≠ 0) (i : ℕ) (hl : ∀ p ∈ owed.drop i, 2 + b.val < lvS p.2.1) (Q : PUnit → sProp 𝕄) :
    iprop(env m K ∗ pend c (sZr b) 0 NB ∗ ow c i)
      ⊢ iprop(((ow c i ∗ done c (sZr b) 1 ∗ Pz c (s4B b.val) fullShare (zW m c)) -∗ Q ⟨⟩) -∗ WP c (zWaitR off h b) Q) :=
  gwait m K _ _ (vZ b) c 0 NB i (.zr b) (dec_zr b) (by rw [rounds, if_neg hb]; exact Nat.one_pos) rfl rfl hl Q
/-- A half has left. -/
theorem zWaitS_spec (off : Fin 3 → ℕ) (h) (b : Fin 4) (hb : b ≠ 0) (s : Fin 2) (hs : s.val = slot b) (i : ℕ) (Q : PUnit → sProp 𝕄) :
    iprop(env m K ∗ pend c (sZs b) 0 NB ∗ ow c i)
      ⊢ iprop(((ow c i ∗ done c (sZs b) 1 ∗ Pp c (hB s.val (hiP c)) fullShare (PC m c b)) -∗ Q ⟨⟩) -∗ WP c (zWaitS off h b) Q) := by
  rw [hs]
  exact gwait m K _ _ (vHalf off h) c 0 NB i (.zs b) (dec_zs b) (by rw [rounds, if_neg hb]; exact Nat.one_pos) rfl rfl (owed_low i _ rfl) Q
/-- A block's transfer is done. -/
theorem blkWait_spec {sp sp' : Space} (sm : DmaSem sig) (src : Memref sig .tc sp S1024x512 .f32) (dst : Memref sig .tc sp' S1024x512 .f32) (hw : src.view.WordExact) (hw' : dst.view.WordExact)
    (k : Kind) (hdec : dec sm = k) (hr : rounds k = 1) (hN : dst.view.amount (.dma sm) = NB) (hk : amt k = NB) (i : ℕ) (hl : ∀ p ∈ owed.drop i, lvK k < lvS p.2.1)
    (P : sProp 𝕄) (hP : pay m c 0 k ⊢ P) (Q : PUnit → sProp 𝕄) :
    iprop(env m K ∗ pend c (.dma sm) 0 NB ∗ ow c i)
      ⊢ iprop(((ow c i ∗ done c (.dma sm) 1 ∗ P) -∗ Q ⟨⟩) -∗ WP c (blkWait sm src dst hw hw') Q) := by
  iintro H Hk
  unfold blkWait
  iapply (gwait m K sm src dst (hw := hw) (hw' := hw') c 0 NB i k hdec (hr ▸ Nat.one_pos) hN hk hl) $$ H
  iintro ⟨H1, H2, H3⟩
  iapply Hk
  isplitl [H1]; · iexact H1
  isplitl [H2]; · iexact H2
  iapply hP; iexact H3

/-! ## Loads and stores -/

/-- Equal sets: one is within the other. -/
theorem sub_of_eq {α : Type} {S S' : Finset α} (h : S = S') : S ⊆ S' := h ▸ Finset.Subset.refl _

/-- 128 columns of block 0's product. -/
theorem mmK_spec (k : Fin 4) (f : S2x2048x512.Idx → Elt F .f32) (Q : PUnit → sProp 𝕄) :
    iprop(Pxv c Finset.univ fullShare (xC m c) ∗ Pdv c (s2B (0 : Fin 2).val) fullShare (dvC m c 0) ∗ Pp c (cK k.val) fullShare f)
      ⊢ iprop(((Pxv c Finset.univ fullShare (xC m c) ∗ Pdv c (s2B (0 : Fin 2).val) fullShare (dvC m c 0) ∗ Pp c (cK k.val) fullShare (PC m c 0)) -∗ Q ⟨⟩) -∗ WP c (mmK k) Q) := by
  have hsub : cK k.val ⊆ s2B (0 : Fin 2).val := fun (i : S2x2048x512.Idx) h => by rw [mem_cK] at h; rw [mem_s2B]; exact h.1
  have hset : ((Memref.whole cc0_scratch1 : Memref sig .tc .vmem S2x2048x512 .f32).access (Rect.unit (s := S2x2048x512) ![0, 0, 128 * k.val] S1x2048x128.size (inb_dk k))).set = cK k.val :=
    (View.set_slice_whole _ _).trans (rect_cK k)
  have hset' : ((Memref.whole cc0_scratch2 : Memref sig .tc .vmem S2x2048x512 .f32).access (Rect.unit (s := S2x2048x512) ![0, 0, 128 * k.val] S1x2048x128.size (inb_dk k))).set = cK k.val :=
    (View.set_slice_whole _ _).trans (rect_cK k)
  iintro ⟨Hx, Hd, Hp⟩ Hk
  unfold mmK
  simp only [Prog.lift, Prog.bind_op, Prog.bind_ret]
  iapply (wp_load 𝒱₀ (c : Thread nD τ) none Set.univ (m := Memref.whole cc0_scratch0) (Finset.subset_univ _)) $$ Hx; iintro Hx
  rw [load_x m c]
  iapply (wp_load_rect 𝒱₀ (c : Thread nD τ) none Set.univ (m := Memref.whole cc0_scratch1) (hset.le.trans hsub)) $$ Hd; iintro Hd
  rw [show ((Memref.whole cc0_scratch1 : Memref sig .tc .vmem S2x2048x512 .f32).access (Rect.unit (s := S2x2048x512) ![0, 0, 128 * k.val] S1x2048x128.size (inb_dk k))).read (Elt F) (dvC m c 0) = dK m c k from load_dK m c k]
  iapply (wp_load_rect 𝒱₀ (c : Thread nD τ) none Set.univ (m := Memref.whole cc0_scratch2) (sub_of_eq hset')) $$ Hp; iintro Hp
  iapply (wp_store 𝒱₀ (c : Thread nD τ) none Set.univ (m := Memref.whole cc0_scratch2) (Mk := Finset.univ) (sub_of_eq hset')) $$ Hp; iintro Hp
  rw [wp_ret]; imodintro
  iapply Hk
  isplitl [Hx]; · iexact Hx
  isplitl [Hd]; · iexact Hd
  iapply (Entails.of_eq (pointsTo_congr (store_mmK m c k f))); iexact Hp

/-- A later block's product. -/
theorem mm_spec (s : Fin 2) (b : Fin 4) (hb : b ≠ 0) (f : S2x2048x512.Idx → Elt F .f32) (Q : PUnit → sProp 𝕄) :
    iprop(Pxv c Finset.univ fullShare (xC m c) ∗ Pdv c (s2B s.val) fullShare (dvC m c b) ∗ Pp c (s2B s.val) fullShare f)
      ⊢ iprop(((Pxv c Finset.univ fullShare (xC m c) ∗ Pdv c (s2B s.val) fullShare (dvC m c b) ∗ Pp c (s2B s.val) fullShare (PC m c b)) -∗ Q ⟨⟩) -∗ WP c (mm s) Q) := by
  have hset : ((Memref.whole cc0_scratch1 : Memref sig .tc .vmem S2x2048x512 .f32).access (Rect.unit (s := S2x2048x512) ![s.val, 0, 0] S1x2048x512.size (inb_dv s))).set = s2B s.val :=
    (View.set_slice_whole _ _).trans (rect_slot2 s)
  have hset' : ((Memref.whole cc0_scratch2 : Memref sig .tc .vmem S2x2048x512 .f32).access (Rect.unit (s := S2x2048x512) ![s.val, 0, 0] S1x2048x512.size (inb_dv s))).set = s2B s.val :=
    (View.set_slice_whole _ _).trans (rect_slot2 s)
  iintro ⟨Hx, Hd, Hp⟩ Hk
  unfold mm
  simp only [Prog.lift, Prog.bind_op, Prog.bind_ret]
  iapply (wp_load 𝒱₀ (c : Thread nD τ) none Set.univ (m := Memref.whole cc0_scratch0) (Finset.subset_univ _)) $$ Hx; iintro Hx
  rw [load_x m c]
  iapply (wp_load_rect 𝒱₀ (c : Thread nD τ) none Set.univ (m := Memref.whole cc0_scratch1) (sub_of_eq hset)) $$ Hd; iintro Hd
  rw [show ((Memref.whole cc0_scratch1 : Memref sig .tc .vmem S2x2048x512 .f32).access (Rect.unit (s := S2x2048x512) ![s.val, 0, 0] S1x2048x512.size (inb_dv s))).read (Elt F) (dvC m c b) = dF m c b from load_dF m c b s]
  iapply (wp_load_rect 𝒱₀ (c : Thread nD τ) none Set.univ (m := Memref.whole cc0_scratch2) (sub_of_eq hset')) $$ Hp; iintro Hp
  iapply (wp_store 𝒱₀ (c : Thread nD τ) none Set.univ (m := Memref.whole cc0_scratch2) (Mk := Finset.univ) (sub_of_eq hset')) $$ Hp; iintro Hp
  rw [wp_ret]; imodintro
  iapply Hk
  isplitl [Hx]; · iexact Hx
  isplitl [Hd]; · iexact Hd
  iapply (Entails.of_eq (pointsTo_congr (store_mm m c b hb s f))); iexact Hp

/-- A block's sum. -/
theorem fin_spec (b : Fin 4) (s : Fin 2) (off : Fin 3 → ℕ) (h) (ho : off = ![s.val, loP c, 0]) (f : S4x1024x512.Idx → Elt F .f32) (Q : PUnit → sProp 𝕄) :
    iprop(Pp c (hB s.val (loP c)) fullShare (PC m c b) ∗ Pz c (s4B b.val) fullShare (zW m c) ∗ Ps c (s4B b.val) fullShare f)
      ⊢ iprop(((Pp c (hB s.val (loP c)) fullShare (PC m c b) ∗ Pz c (s4B b.val) fullShare (zW m c) ∗ Ps c (s4B b.val) fullShare (sC m c)) -∗ Q ⟨⟩) -∗ WP c (fin off h b) Q) := by
  have hset : ((Memref.whole cc0_scratch2 : Memref sig .tc .vmem S2x2048x512 .f32).access (Rect.unit (s := S2x2048x512) off S1x1024x512.size h)).set = hB s.val (loP c) :=
    (View.set_slice_whole _ _).trans (rect_half off h _ _ ho)
  have hset' : ((Memref.whole cc0_scratch3 : Memref sig .tc .vmem S4x1024x512 .f32).access (Rect.unit (s := S4x1024x512) ![b.val, 0, 0] S1x1024x512.size (inb_z b))).set = s4B b.val :=
    (View.set_slice_whole _ _).trans (rect_slot4 b)
  have hset'' : ((Memref.whole cc0_scratch4 : Memref sig .tc .vmem S4x1024x512 .f32).access (Rect.unit (s := S4x1024x512) ![b.val, 0, 0] S1x1024x512.size (inb_z b))).set = s4B b.val :=
    (View.set_slice_whole _ _).trans (rect_slot4 b)
  iintro ⟨Hp, Hz, Hs⟩ Hk
  unfold fin
  simp only [Prog.lift, Prog.bind_op, Prog.bind_ret]
  iapply (wp_load_rect 𝒱₀ (c : Thread nD τ) none Set.univ (m := Memref.whole cc0_scratch2) (sub_of_eq hset)) $$ Hp; iintro Hp
  rw [show ((Memref.whole cc0_scratch2 : Memref sig .tc .vmem S2x2048x512 .f32).access (Rect.unit (s := S2x2048x512) off S1x1024x512.size h)).read (Elt F) (PC m c b) = pH m c b from load_pH m c b s off h ho]
  iapply (wp_load_rect 𝒱₀ (c : Thread nD τ) none Set.univ (m := Memref.whole cc0_scratch3) (sub_of_eq hset')) $$ Hz; iintro Hz
  rw [show ((Memref.whole cc0_scratch3 : Memref sig .tc .vmem S4x1024x512 .f32).access (Rect.unit (s := S4x1024x512) ![b.val, 0, 0] S1x1024x512.size (inb_z b))).read (Elt F) (zW m c) = zH m c b from load_zH m c b]
  iapply (wp_load_rect 𝒱₀ (c : Thread nD τ) none Set.univ (m := Memref.whole cc0_scratch4) (sub_of_eq hset'')) $$ Hs; iintro Hs
  iapply (wp_store 𝒱₀ (c : Thread nD τ) none Set.univ (m := Memref.whole cc0_scratch4) (Mk := Finset.univ) (sub_of_eq hset'')) $$ Hs; iintro Hs
  rw [wp_ret]; imodintro
  iapply Hk
  isplitl [Hp]; · iexact Hp
  isplitl [Hz]; · iexact Hz
  iapply (Entails.of_eq (pointsTo_congr (store_fin m c b f))); iexact Hs

/-! ## The barrier -/

/-- A signal to a neighbour's barrier, with what it hands over. -/
theorem sig_spec (d : Fin 3) (n : Dev nD) (hn : n = nb d c) (i : ℕ) (hi : owed.drop i = (d, .reg barS, 1) :: owed.drop (i + 1)) (Q : PUnit → sProp 𝕄) :
    iprop(env m K ∗ dutyTok ER ((nb d c : Thread nD τ), .reg barS) 0 d ∗ barPay m (nb d c) d ∗ ow c i)
      ⊢ iprop((ow c (i + 1) -∗ Q ⟨⟩) -∗ WP c (semSignalWord n barS 1#32) Q) := by
  subst hn
  unfold ow
  iintro ⟨#HE, Ht, Hp, ⟨%W, HO⟩⟩ Hk
  simp only [semSignalWord, Prog.lift]
  iapply (Rounds.wp_signal 𝒱₀ ER (Rd m) (c : Thread nD τ) none (dst := (nb d c : Thread nD τ)) (κ := K (nb d c, .reg barS)) (r := 0)
      (d := d) (by rw [duties_bar]; exact Finset.mem_univ _) ((amount_bar m (nb d c) 0 d).trans (by decide)) () (O₀ := tl c (owed.drop i)) (tl c (owed.drop (i + 1))) (by rw [hi]; rfl) (W := W)) $$ [HO Ht Hp]
  · isplitr; · iapply (env_inv m K (nb d c) (.reg barS)); iexact HE
    isplitl [HO]; · iexact HO
    isplitl [Ht]; · iexact Ht
    isplitl [Hp]; · iapply (show barPay m (nb d c) d ⊢ (Rd m).payload ((nb d c : Thread nD τ), .reg barS) 0 d from BI.Entails.refl _); iexact Hp
    iapply (env_reached m K (nb d c) (.reg barS)); iexact HE
  iintro HO
  rw [wp_ret]; imodintro
  iapply Hk; iexists W; iexact HO

/-- The wait for the three neighbours. -/
theorem barWait_spec (Q : PUnit → sProp 𝕄) :
    iprop(env m K ∗ pend c (.reg barS) 0 3 ∗ ow c 3)
      ⊢ iprop(((ow c 3 ∗ done c (.reg barS) 1 ∗ barPay m c 0 ∗ barPay m c 1 ∗ barPay m c 2) -∗ Q ⟨⟩) -∗ WP c (semWaitWord barS 3#32) Q) := by
  unfold pend done ow
  iintro ⟨#HE, ⟨Hc, Ha, #Hr⟩, ⟨%W, HO⟩⟩ Hk
  simp only [semWaitWord, Prog.lift]
  iapply (Rounds.wp_wait_rest_token 𝒱₀ ER (Rd m) (c : Thread nD τ) none (κ := K (c, .reg barS))
      (wpE_semWait_eq 𝒱₀ (c : Thread nD τ) none Set.univ) (Set.mem_univ _) () (O := tl c (owed.drop 3)) (W := W) (R := 0) (m := 0) (T := ∅)
      (by rw [expect_bar]; decide)) $$ [Hc Ha HO]
  · isplitr; · iapply (env_inv m K c (.reg barS)); iexact HE
    isplitl [Hc]; · iexact Hc
    isplitl [HO]; · iexact HO
    isplitr; · iapply (env_mayWait m K c (.reg barS) (owed.drop 3) (by decide)); iexact HE
    iexact Ha
  iintro ⟨HO, Ha, #Hr', Hpay⟩
  ihave Hp := (Entails.of_eq (rest_bar m c)) $$ Hpay
  rw [wp_ret]; imodintro
  iapply Hk
  isplitl [HO]; · iexists _; iexact HO
  isplitl [Ha]
  · isplitl [Ha]; · iexact Ha
    iexact Hr'
  iexact Hp

end Cert.KernelIdeal.Own

end
-- ==== Proof.Body.lean ====
/-
The phases of the body, each from what it needs to what it leaves.
-/
module

public import proofs.«01_k».proof.Proof.Ops

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The right to fund round 1 of a device's own semaphore. -/
def tk1 (c : Dev nD) (sm : SemLoc sig) : sProp 𝕄 := dutyTok ER ((c : Thread nD τ), sm) 1 0
/-- The right to signal the neighbour in direction `d`. -/
def btok (c : Dev nD) (d : Fin 3) : sProp 𝕄 := dutyTok ER ((nb d c : Thread nD τ), sBar) 0 d

/-- A part of the sums, in the three shares that their readers take. -/
theorem s_thirds (S : Finset S4x1024x512.Idx) (f : S4x1024x512.Idx → Elt F .f32) : Ps c S fullShare f = iprop(Ps c S q0 f ∗ Ps c S q1 f ∗ Ps c S q2 f) := pts_thirds (ℓ := (c : Thread nD τ).loc cc0_scratch4) S
/-- A part of the x forwarding buffer, in two shares. -/
theorem fx_halves (S : Finset S2x1024x512.Idx) (f : S2x1024x512.Idx → Elt F .f32) : Pfx c S fullShare f = iprop(Pfx c S fullShare.left f ∗ Pfx c S fullShare.right f) := pts_halves (ℓ := (c : Thread nD τ).loc cc0_scratch5) S
/-- A part of the y forwarding buffer, in two shares. -/
theorem fy_halves (S : Finset S2x1024x512.Idx) (f : S2x1024x512.Idx → Elt F .f32) : Pfy c S fullShare f = iprop(Pfy c S fullShare.left f ∗ Pfy c S fullShare.right f) := pts_halves (ℓ := (c : Thread nD τ).loc cc0_scratch6) S

/-- Phase 1: `x` and blocks 0 and 1 of `dy` started; each neighbour handed the parts its transfers to this device write, and met. -/
theorem ph1_spec (fx : S2048x2048.Idx → Elt F .f32) (fd : S2x2048x512.Idx → Elt F .f32) (Q : PUnit → sProp 𝕄) :
    iprop(env m K ∗ ow c 0 ∗ rdy c sX 0 ∗ Px c Finset.univ fullShare (xC m c) ∗ Pxv c Finset.univ fullShare fx
      ∗ (btok c 0 ∗ btok c 1 ∗ btok c 2) ∗ (barPay m (nb 0 c) 0 ∗ barPay m (nb 1 c) 1 ∗ barPay m (nb 2 c) 2) ∗ pend c sBar 0 3
      ∗ (rdy c (sDy 0) 0 ∗ rdy c (sDy 1) 0)
      ∗ (Pd c (dB (gcol c + 512 * (0 : Fin 4).val)) fullShare (dyAt m c) ∗ Pd c (dB (gcol c + 512 * (1 : Fin 4).val)) fullShare (dyAt m c))
      ∗ (Pdv c (s2B (0 : Fin 2).val) fullShare fd ∗ Pdv c (s2B (1 : Fin 2).val) fullShare fd))
      ⊢ iprop(((ow c 3 ∗ pend c sX 0 NX ∗ done c sBar 1 ∗ (barPay m c 0 ∗ barPay m c 1 ∗ barPay m c 2)
          ∗ pend c (sDy 0) 0 ND ∗ pend c (sDy 1) 0 ND) -∗ Q ⟨⟩) -∗ WP c (ph1 c) Q) := by
  iintro ⟨#HE, HO, Hx, Hxh, Hxv, ⟨Hb0, Hb1, Hb2⟩, ⟨Hp0, Hp1, Hp2⟩, HB, ⟨Hy0, Hy1⟩, ⟨Hd0, Hd1⟩, ⟨Hv0, Hv1⟩⟩ Hk
  unfold ph1 btok
  simp only [wp_bind]
  iapply (xStart_spec m K c fx) $$ [Hx Hxh Hxv]; · iframe HE; iframe
  iintro Hx
  iapply (sig_spec m K c 0 _ (dev1_eq c) 0 rfl) $$ [HO Hb0 Hp0]; · iframe HE; iframe
  iintro HO
  iapply (sig_spec m K c 1 _ (dev2_eq c) 1 rfl) $$ [HO Hb1 Hp1]; · iframe HE; iframe
  iintro HO
  iapply (sig_spec m K c 2 _ (dev3_eq c) 2 rfl) $$ [HO Hb2 Hp2]; · iframe HE; iframe
  iintro HO
  iapply (barWait_spec m K c) $$ [HO HB]; · iframe HE; iframe
  iintro ⟨HO, HB, Hp0, Hp1, Hp2⟩
  iapply (dyStart_spec m K c 0 0 0 (by decide) rfl fd) $$ [Hy0 Hd0 Hv0]; · iframe HE; iframe
  iintro Hy0
  iapply (dyStart_spec m K c 1 1 0 (by decide) rfl fd) $$ [Hy1 Hd1 Hv1]; · iframe HE; iframe
  iintro Hy1
  iapply Hk
  iframe

/-- Phase 2: `x` and block 0 have come; block 0's product is made 128 columns at a time, and of each the half the z neighbour sums leaves. -/
theorem ph2_spec (f : S2x2048x512.Idx → Elt F .f32) (g : S4x1024x512.Idx → Elt F .f32) (Q : PUnit → sProp 𝕄) :
    iprop(env m K ∗ ow c 3 ∗ pend c (sDy 0) 0 ND ∗ pend c sX 0 NX
      ∗ (Pp c (cK (0 : Fin 4).val) fullShare f ∗ Pp c (cK (1 : Fin 4).val) fullShare f ∗ Pp c (cK (2 : Fin 4).val) fullShare f ∗ Pp c (cK (3 : Fin 4).val) fullShare f)
      ∗ (Pz (zN c) (zK (0 : Fin 4).val) fullShare g ∗ Pz (zN c) (zK (1 : Fin 4).val) fullShare g ∗ Pz (zN c) (zK (2 : Fin 4).val) fullShare g ∗ Pz (zN c) (zK (3 : Fin 4).val) fullShare g)
      ∗ (rdy c (sZ0s 0) 0 ∗ rdy c (sZ0s 1) 0 ∗ rdy c (sZ0s 2) 0 ∗ rdy c (sZ0s 3) 0)
      ∗ (tok (zN c) (sZ0r 0) ∗ tok (zN c) (sZ0r 1) ∗ tok (zN c) (sZ0r 2) ∗ tok (zN c) (sZ0r 3)))
      ⊢ iprop(((ow c 7 ∗ done c (sDy 0) 1 ∗ done c sX 1
          ∗ Pdv c (s2B (0 : Fin 2).val) fullShare (dvC m c 0) ∗ Pd c (dB (gcol c + 512 * (0 : Fin 4).val)) fullShare (dyAt m c)
          ∗ Pxv c Finset.univ fullShare (xC m c) ∗ Px c Finset.univ fullShare (xC m c)
          ∗ (pend c (sZ0s 0) 0 NK ∗ pend c (sZ0s 1) 0 NK ∗ pend c (sZ0s 2) 0 NK ∗ pend c (sZ0s 3) 0 NK)
          ∗ Pp c (hB (0 : Fin 2).val (loP c)) fullShare (PC m c 0)) -∗ Q ⟨⟩) -∗ WP c (ph2 c) Q) := by
  iintro ⟨#HE, HO, Hdy, Hx, ⟨Hc0, Hc1, Hc2, Hc3⟩, ⟨Hz0, Hz1, Hz2, Hz3⟩, ⟨Hs0, Hs1, Hs2, Hs3⟩, ⟨Ht0, Ht1, Ht2, Ht3⟩⟩ Hk
  unfold ph2
  simp only [wp_bind]
  iapply (dyWait_spec m K c 0 0 0 1 (by decide) rfl rfl 3) $$ [Hdy HO]; · iframe HE; iframe
  iintro ⟨HO, Hdy, Hd, Hd0⟩
  iapply (xWait_spec m K c 3) $$ [Hx HO]; · iframe HE; iframe
  iintro ⟨HO, Hxd, Hx, Hxh⟩
  iapply (mmK_spec m c 0) $$ [Hx Hd Hc0]; · iframe
  iintro ⟨Hx, Hd, Hc0⟩
  ihave Hc0' := (Entails.of_eq (pp_colhalf c fullShare (0 : Fin 4).val (PC m c 0))) $$ Hc0
  icases Hc0' with ⟨Hh0, Hl0⟩
  iapply (zkSend_spec m K c 0 _ (dev4_eq c) _ _ (off2_at c) 3 rfl g) $$ [Hs0 Ht0 Hh0 Hz0 HO]; · iframe HE; iframe
  iintro ⟨Hs0, HO⟩
  iapply (mmK_spec m c 1) $$ [Hx Hd Hc1]; · iframe
  iintro ⟨Hx, Hd, Hc1⟩
  ihave Hc1' := (Entails.of_eq (pp_colhalf c fullShare (1 : Fin 4).val (PC m c 0))) $$ Hc1
  icases Hc1' with ⟨Hh1, Hl1⟩
  iapply (zkSend_spec m K c 1 _ (dev5_eq c) _ _ (off3_at c) 4 rfl g) $$ [Hs1 Ht1 Hh1 Hz1 HO]; · iframe HE; iframe
  iintro ⟨Hs1, HO⟩
  iapply (mmK_spec m c 2) $$ [Hx Hd Hc2]; · iframe
  iintro ⟨Hx, Hd, Hc2⟩
  ihave Hc2' := (Entails.of_eq (pp_colhalf c fullShare (2 : Fin 4).val (PC m c 0))) $$ Hc2
  icases Hc2' with ⟨Hh2, Hl2⟩
  iapply (zkSend_spec m K c 2 _ (dev6_eq c) _ _ (off4_at c) 5 rfl g) $$ [Hs2 Ht2 Hh2 Hz2 HO]; · iframe HE; iframe
  iintro ⟨Hs2, HO⟩
  iapply (mmK_spec m c 3) $$ [Hx Hd Hc3]; · iframe
  iintro ⟨Hx, Hd, Hc3⟩
  ihave Hc3' := (Entails.of_eq (pp_colhalf c fullShare (3 : Fin 4).val (PC m c 0))) $$ Hc3
  icases Hc3' with ⟨Hh3, Hl3⟩
  iapply (zkSend_spec m K c 3 _ (dev7_eq c) _ _ (off5_at c) 6 rfl g) $$ [Hs3 Ht3 Hh3 Hz3 HO]; · iframe HE; iframe
  iintro ⟨Hs3, HO⟩
  iapply Hk
  iframe
  iapply (Entails.of_eq (pp_halfcols c fullShare (loP c) (PC m c 0)).symm)
  iframe

set_option maxHeartbeats 1000000 in
/-- Phase 3: block 1's product made and its half sent; block 0 summed, stored, and sent along x and y. -/
theorem ph3_spec (fd : S2x2048x512.Idx → Elt F .f32) (fp : S2x2048x512.Idx → Elt F .f32) (fz fs : S4x1024x512.Idx → Elt F .f32) (fo fox : S1024x8192.Idx → Elt F .f32) (fy : S2x1024x512.Idx → Elt F .f32)
    (Q : PUnit → sProp 𝕄) :
    iprop(env m K ∗ ow c 7 ∗ (done c (sDy 0) 1 ∗ tk1 c (sDy 0)) ∗ Pd c (dB (gcol c + 512 * (2 : Fin 4).val)) fullShare (dyAt m c) ∗ Pdv c (s2B (0 : Fin 2).val) fullShare fd
      ∗ (pend c (sDy 1) 0 ND ∗ tk1 c (sDy 1)) ∗ Pd c (dB (gcol c + 512 * (3 : Fin 4).val)) fullShare (dyAt m c)
      ∗ Pxv c Finset.univ fullShare (xC m c) ∗ Pp c (s2B (1 : Fin 2).val) fullShare fp
      ∗ rdy c (sZs 1) 0 ∗ tok (zN c) (sZr 1) ∗ Pz (zN c) (s4B (1 : Fin 4).val) fullShare fz
      ∗ (pend c (sZ0r 0) 0 NK ∗ pend c (sZ0r 1) 0 NK ∗ pend c (sZ0r 2) 0 NK ∗ pend c (sZ0r 3) 0 NK)
      ∗ Pp c (hB (0 : Fin 2).val (loP c)) fullShare (PC m c 0) ∗ Ps c (s4B (0 : Fin 4).val) fullShare fs
      ∗ (rdy c (sSt 0) 0 ∗ Po c (oB (gcol c + 512 * (0 : Fin 4).val)) fullShare fo)
      ∗ (rdy c (sPx 0) 0 ∗ tok (xN c) (sXo 0) ∗ Po (xN c) (oB (gcol c + 512 * (0 : Fin 4).val)) fullShare fox)
      ∗ (rdy c (sPy 0) 0 ∗ tok (yN c) (sYf 0) ∗ Pfy (yN c) (fB (0 : Fin 2).val) fullShare fy))
      ⊢ iprop(((ow c 10 ∗ done c (sDy 0) 2 ∗ Pdv c (s2B (0 : Fin 2).val) fullShare (dvC m c 2) ∗ Pd c (dB (gcol c + 512 * (2 : Fin 4).val)) fullShare (dyAt m c)
          ∗ pend c (sDy 1) 1 ND ∗ Pd c (dB (gcol c + 512 * (1 : Fin 4).val)) fullShare (dyAt m c)
          ∗ Pxv c Finset.univ fullShare (xC m c) ∗ pend c (sZs 1) 0 NB ∗ Pp c (hB (1 : Fin 2).val (loP c)) fullShare (PC m c 1)
          ∗ (done c (sZ0r 0) 1 ∗ done c (sZ0r 1) 1 ∗ done c (sZ0r 2) 1 ∗ done c (sZ0r 3) 1)
          ∗ Pz c (s4B (0 : Fin 4).val) fullShare (zW m c) ∗ Pp c (hB (0 : Fin 2).val (loP c)) fullShare (PC m c 0)
          ∗ (pend c (sSt 0) 0 NB ∗ pend c (sPx 0) 0 NB ∗ pend c (sPy 0) 0 NB)) -∗ Q ⟨⟩) -∗ WP c (ph3 c) Q) := by
  iintro ⟨#HE, HO, ⟨Hy0, Hk0⟩, Hd2, Hv0, ⟨Hy1, Hk1⟩, Hd3, Hx, Hp, Hzs, Hzt, Hzn, ⟨Hr0, Hr1, Hr2, Hr3⟩, Hpl, Hs, ⟨Hst, Ho⟩, ⟨Hpx, Htx, Hox⟩, ⟨Hpy, Hty, Hfy⟩⟩ Hk
  unfold ph3
  simp only [wp_bind]
  iapply (dyStart_spec m K c 2 0 1 (by decide) rfl fd) $$ [Hy0 Hk0 Hd2 Hv0]; · unfold rdy tk1; iframe HE; iframe
  iintro Hy0
  iapply (dyWait_spec m K c 1 1 0 1 (by decide) rfl rfl 7) $$ [Hy1 HO]; · iframe HE; iframe
  iintro ⟨HO, Hy1, Hv1, Hd1⟩
  iapply (mm_spec m c 1 1 (by decide) fp) $$ [Hx Hv1 Hp]; · iframe
  iintro ⟨Hx, Hv1, Hp⟩
  ihave Hp' := (Entails.of_eq (pp_half c fullShare (1 : Fin 2).val (PC m c 1))) $$ Hp
  icases Hp' with ⟨Hph, Hpl1⟩
  iapply (zSend_spec m K c 1 (by decide) 1 rfl _ (dev8_eq c) _ _ (off6_at c) 7 rfl fz) $$ [Hzs Hzt Hph Hzn HO]; · iframe HE; iframe
  iintro ⟨Hzs, HO⟩
  iapply (dyStart_spec m K c 3 1 1 (by decide) rfl (dvC m c 1)) $$ [Hy1 Hk1 Hd3 Hv1]; · unfold rdy tk1; iframe HE; iframe
  iintro Hy1
  iapply (dyWait_spec m K c 2 0 1 2 (by decide) rfl rfl 8) $$ [Hy0 HO]; · iframe HE; iframe
  iintro ⟨HO, Hy0, Hv0, Hd2⟩
  iapply (zkWaitR_spec m K c _ _ 0 8 (by decide)) $$ [Hr0 HO]; · iframe HE; iframe
  iintro ⟨HO, Hr0, Hz0⟩
  iapply (zkWaitR_spec m K c _ _ 1 8 (by decide)) $$ [Hr1 HO]; · iframe HE; iframe
  iintro ⟨HO, Hr1, Hz1⟩
  iapply (zkWaitR_spec m K c _ _ 2 8 (by decide)) $$ [Hr2 HO]; · iframe HE; iframe
  iintro ⟨HO, Hr2, Hz2⟩
  iapply (zkWaitR_spec m K c _ _ 3 8 (by decide)) $$ [Hr3 HO]; · iframe HE; iframe
  iintro ⟨HO, Hr3, Hz3⟩
  ihave Hz := (Entails.of_eq (z_cols c fullShare (zW m c)).symm) $$ [Hz0 Hz1 Hz2 Hz3]; · iframe
  iapply (fin_spec m c 0 0 _ _ (off7_at c) fs) $$ [Hpl Hz Hs]; · iframe
  iintro ⟨Hpl, Hz, Hs⟩
  ihave Hs' := (Entails.of_eq (s_thirds c (s4B (0 : Fin 4).val) (sC m c))) $$ Hs
  icases Hs' with ⟨Hs0, Hs1, Hs2⟩
  iapply (stCopy_spec m K c 0 _ _ (off8_at c 0) fo) $$ [Hst Hs0 Ho]; · iframe HE; iframe
  iintro Hst
  iapply (xoSend_spec m K c 0 0 rfl _ (dev9_eq c) _ _ (off8_at c 0) 8 rfl fox) $$ [Hpx Htx Hs1 Hox HO]; · iframe HE; iframe
  iintro ⟨Hpx, HO⟩
  iapply (yfSend_spec m K c 0 0 rfl _ (dev10_eq c) 9 rfl fy) $$ [Hpy Hty Hs2 Hfy HO]; · iframe HE; iframe
  iintro ⟨Hpy, HO⟩
  iapply Hk
  iframe

set_option maxHeartbeats 1000000 in
/-- Phase 4: block 2's product made and its half sent; block 1 summed, stored, and sent along x and y. -/
theorem ph4_spec (fz fs : S4x1024x512.Idx → Elt F .f32) (fo fox : S1024x8192.Idx → Elt F .f32) (fy : S2x1024x512.Idx → Elt F .f32) (Q : PUnit → sProp 𝕄) :
    iprop(env m K ∗ ow c 10 ∗ (pend c (sZ0s 0) 0 NK ∗ pend c (sZ0s 1) 0 NK ∗ pend c (sZ0s 2) 0 NK ∗ pend c (sZ0s 3) 0 NK)
      ∗ Pp c (hB (0 : Fin 2).val (loP c)) fullShare (PC m c 0) ∗ Pxv c Finset.univ fullShare (xC m c) ∗ Pdv c (s2B (0 : Fin 2).val) fullShare (dvC m c 2)
      ∗ rdy c (sZs 2) 0 ∗ tok (zN c) (sZr 2) ∗ Pz (zN c) (s4B (2 : Fin 4).val) fullShare fz
      ∗ pend c (sDy 1) 1 ND ∗ pend c (sZr 1) 0 NB
      ∗ Pp c (hB (1 : Fin 2).val (loP c)) fullShare (PC m c 1) ∗ Ps c (s4B (1 : Fin 4).val) fullShare fs
      ∗ (rdy c (sSt 1) 0 ∗ Po c (oB (gcol c + 512 * (1 : Fin 4).val)) fullShare fo)
      ∗ (rdy c (sPx 1) 0 ∗ tok (xN c) (sXo 1) ∗ Po (xN c) (oB (gcol c + 512 * (1 : Fin 4).val)) fullShare fox)
      ∗ (rdy c (sPy 1) 0 ∗ tok (yN c) (sYf 1) ∗ Pfy (yN c) (fB (1 : Fin 2).val) fullShare fy))
      ⊢ iprop(((ow c 13 ∗ (done c (sZ0s 0) 1 ∗ done c (sZ0s 1) 1 ∗ done c (sZ0s 2) 1 ∗ done c (sZ0s 3) 1)
          ∗ Pxv c Finset.univ fullShare (xC m c) ∗ Pdv c (s2B (0 : Fin 2).val) fullShare (dvC m c 2)
          ∗ pend c (sZs 2) 0 NB ∗ Pp c (hB (0 : Fin 2).val (loP c)) fullShare (PC m c 2)
          ∗ done c (sDy 1) 2 ∗ Pdv c (s2B (1 : Fin 2).val) fullShare (dvC m c 3) ∗ Pd c (dB (gcol c + 512 * (3 : Fin 4).val)) fullShare (dyAt m c)
          ∗ done c (sZr 1) 1 ∗ Pz c (s4B (1 : Fin 4).val) fullShare (zW m c) ∗ Pp c (hB (1 : Fin 2).val (loP c)) fullShare (PC m c 1)
          ∗ (pend c (sSt 1) 0 NB ∗ pend c (sPx 1) 0 NB ∗ pend c (sPy 1) 0 NB)) -∗ Q ⟨⟩) -∗ WP c (ph4 c) Q) := by
  iintro ⟨#HE, HO, ⟨Hs0, Hs1, Hs2, Hs3⟩, Hpl, Hx, Hv0, Hzs, Hzt, Hzn, Hy1, Hr, Hpl1, Hs, ⟨Hst, Ho⟩, ⟨Hpx, Htx, Hox⟩, ⟨Hpy, Hty, Hfy⟩⟩ Hk
  unfold ph4
  simp only [wp_bind]
  iapply (zkWaitS_spec m K c _ _ 0 10) $$ [Hs0 HO]; · iframe HE; iframe
  iintro ⟨HO, Hs0, Hp0⟩
  iapply (zkWaitS_spec m K c _ _ 1 10) $$ [Hs1 HO]; · iframe HE; iframe
  iintro ⟨HO, Hs1, Hp1⟩
  iapply (zkWaitS_spec m K c _ _ 2 10) $$ [Hs2 HO]; · iframe HE; iframe
  iintro ⟨HO, Hs2, Hp2⟩
  iapply (zkWaitS_spec m K c _ _ 3 10) $$ [Hs3 HO]; · iframe HE; iframe
  iintro ⟨HO, Hs3, Hp3⟩
  ihave Hph := (Entails.of_eq (pp_halfcols c fullShare (hiP c) (PC m c 0)).symm) $$ [Hp0 Hp1 Hp2 Hp3]; · iframe
  ihave Hp := (Entails.of_eq (pp_half c fullShare (0 : Fin 2).val (PC m c 0)).symm) $$ [Hph Hpl]; · iframe
  iapply (mm_spec m c 0 2 (by decide) (PC m c 0)) $$ [Hx Hv0 Hp]; · iframe
  iintro ⟨Hx, Hv0, Hp⟩
  ihave Hp' := (Entails.of_eq (pp_half c fullShare (0 : Fin 2).val (PC m c 2))) $$ Hp
  icases Hp' with ⟨Hph, Hpl⟩
  iapply (zSend_spec m K c 2 (by decide) 0 rfl _ (dev11_eq c) _ _ (off9_at c) 10 rfl fz) $$ [Hzs Hzt Hph Hzn HO]; · iframe HE; iframe
  iintro ⟨Hzs, HO⟩
  iapply (dyWait_spec m K c 3 1 1 2 (by decide) rfl rfl 11) $$ [Hy1 HO]; · iframe HE; iframe
  iintro ⟨HO, Hy1, Hv1, Hd3⟩
  iapply (zWaitR_spec m K c _ _ 1 (by decide) 11 (by decide)) $$ [Hr HO]; · iframe HE; iframe
  iintro ⟨HO, Hr, Hz⟩
  iapply (fin_spec m c 1 1 _ _ (off10_at c) fs) $$ [Hpl1 Hz Hs]; · iframe
  iintro ⟨Hpl1, Hz, Hs⟩
  ihave Hs' := (Entails.of_eq (s_thirds c (s4B (1 : Fin 4).val) (sC m c))) $$ Hs
  icases Hs' with ⟨Ha0, Ha1, Ha2⟩
  iapply (stCopy_spec m K c 1 _ _ (off8_at c 1) fo) $$ [Hst Ha0 Ho]; · iframe HE; iframe
  iintro Hst
  iapply (xoSend_spec m K c 1 1 rfl _ (dev12_eq c) _ _ (off8_at c 1) 11 rfl fox) $$ [Hpx Htx Ha1 Hox HO]; · iframe HE; iframe
  iintro ⟨Hpx, HO⟩
  iapply (yfSend_spec m K c 1 1 rfl _ (dev13_eq c) 12 rfl fy) $$ [Hpy Hty Ha2 Hfy HO]; · iframe HE; iframe
  iintro ⟨Hpy, HO⟩
  iapply Hk
  iframe

set_option maxHeartbeats 1000000 in
/-- Phase 5: block 3's product made and its half sent; block 2 summed, stored, and sent along x and y. -/
theorem ph5_spec (fz fs : S4x1024x512.Idx → Elt F .f32) (fo foy : S1024x8192.Idx → Elt F .f32) (fx : S2x1024x512.Idx → Elt F .f32) (Q : PUnit → sProp 𝕄) :
    iprop(env m K ∗ ow c 13 ∗ pend c (sZs 1) 0 NB ∗ Pp c (hB (1 : Fin 2).val (loP c)) fullShare (PC m c 1) ∗ Pxv c Finset.univ fullShare (xC m c) ∗ Pdv c (s2B (1 : Fin 2).val) fullShare (dvC m c 3)
      ∗ rdy c (sZs 3) 0 ∗ tok (zN c) (sZr 3) ∗ Pz (zN c) (s4B (3 : Fin 4).val) fullShare fz
      ∗ pend c (sZr 2) 0 NB
      ∗ Pp c (hB (0 : Fin 2).val (loP c)) fullShare (PC m c 2) ∗ Ps c (s4B (2 : Fin 4).val) fullShare fs
      ∗ (rdy c (sSt 2) 0 ∗ Po c (oB (gcol c + 512 * (2 : Fin 4).val)) fullShare fo)
      ∗ (rdy c (sPx 2) 0 ∗ tok (xN c) (sXf 0) ∗ Pfx (xN c) (fB (0 : Fin 2).val) fullShare fx)
      ∗ (rdy c (sPy 2) 0 ∗ tok (yN c) (sYo 0) ∗ Po (yN c) (oB (gcol c + 512 * (2 : Fin 4).val)) fullShare foy))
      ⊢ iprop(((ow c 16 ∗ done c (sZs 1) 1 ∗ Pxv c Finset.univ fullShare (xC m c) ∗ Pdv c (s2B (1 : Fin 2).val) fullShare (dvC m c 3)
          ∗ pend c (sZs 3) 0 NB ∗ Pp c (hB (1 : Fin 2).val (loP c)) fullShare (PC m c 3)
          ∗ done c (sZr 2) 1 ∗ Pz c (s4B (2 : Fin 4).val) fullShare (zW m c) ∗ Pp c (hB (0 : Fin 2).val (loP c)) fullShare (PC m c 2)
          ∗ (pend c (sSt 2) 0 NB ∗ pend c (sPx 2) 0 NB ∗ pend c (sPy 2) 0 NB)) -∗ Q ⟨⟩) -∗ WP c (ph5 c) Q) := by
  iintro ⟨#HE, HO, Hw, Hpl1, Hx, Hv1, Hzs, Hzt, Hzn, Hr, Hpl, Hs, ⟨Hst, Ho⟩, ⟨Hpx, Htx, Hfx⟩, ⟨Hpy, Hty, Hoy⟩⟩ Hk
  unfold ph5
  simp only [wp_bind]
  iapply (zWaitS_spec m K c _ _ 1 (by decide) 1 rfl 13) $$ [Hw HO]; · iframe HE; iframe
  iintro ⟨HO, Hw, Hph⟩
  ihave Hp := (Entails.of_eq (pp_half c fullShare (1 : Fin 2).val (PC m c 1)).symm) $$ [Hph Hpl1]; · iframe
  iapply (mm_spec m c 1 3 (by decide) (PC m c 1)) $$ [Hx Hv1 Hp]; · iframe
  iintro ⟨Hx, Hv1, Hp⟩
  ihave Hp' := (Entails.of_eq (pp_half c fullShare (1 : Fin 2).val (PC m c 3))) $$ Hp
  icases Hp' with ⟨Hph, Hpl1⟩
  iapply (zSend_spec m K c 3 (by decide) 1 rfl _ (dev14_eq c) _ _ (off6_at c) 13 rfl fz) $$ [Hzs Hzt Hph Hzn HO]; · iframe HE; iframe
  iintro ⟨Hzs, HO⟩
  iapply (zWaitR_spec m K c _ _ 2 (by decide) 14 (by decide)) $$ [Hr HO]; · iframe HE; iframe
  iintro ⟨HO, Hr, Hz⟩
  iapply (fin_spec m c 2 0 _ _ (off7_at c) fs) $$ [Hpl Hz Hs]; · iframe
  iintro ⟨Hpl, Hz, Hs⟩
  ihave Hs' := (Entails.of_eq (s_thirds c (s4B (2 : Fin 4).val) (sC m c))) $$ Hs
  icases Hs' with ⟨Ha0, Ha1, Ha2⟩
  iapply (stCopy_spec m K c 2 _ _ (off8_at c 2) fo) $$ [Hst Ha0 Ho]; · iframe HE; iframe
  iintro Hst
  iapply (xfSend_spec m K c 0 2 rfl _ (dev15_eq c) 14 rfl fx) $$ [Hpx Htx Ha1 Hfx HO]; · iframe HE; iframe
  iintro ⟨Hpx, HO⟩
  iapply (yoSend_spec m K c 0 2 rfl _ (dev16_eq c) _ _ (off8_at c 2) 15 rfl foy) $$ [Hpy Hty Ha2 Hoy HO]; · iframe HE; iframe
  iintro ⟨Hpy, HO⟩
  iapply Hk
  iframe

set_option maxHeartbeats 1000000 in
/-- Phase 6: block 3 summed, stored, and sent along x and y. -/
theorem ph6_spec (fs : S4x1024x512.Idx → Elt F .f32) (fo foy : S1024x8192.Idx → Elt F .f32) (fx : S2x1024x512.Idx → Elt F .f32) (Q : PUnit → sProp 𝕄) :
    iprop(env m K ∗ ow c 16 ∗ pend c (sZr 3) 0 NB ∗ Pp c (hB (1 : Fin 2).val (loP c)) fullShare (PC m c 3) ∗ Ps c (s4B (3 : Fin 4).val) fullShare fs
      ∗ (rdy c (sSt 3) 0 ∗ Po c (oB (gcol c + 512 * (3 : Fin 4).val)) fullShare fo)
      ∗ (rdy c (sPx 3) 0 ∗ tok (xN c) (sXf 1) ∗ Pfx (xN c) (fB (1 : Fin 2).val) fullShare fx)
      ∗ (rdy c (sPy 3) 0 ∗ tok (yN c) (sYo 1) ∗ Po (yN c) (oB (gcol c + 512 * (3 : Fin 4).val)) fullShare foy))
      ⊢ iprop(((ow c 18 ∗ done c (sZr 3) 1 ∗ Pz c (s4B (3 : Fin 4).val) fullShare (zW m c) ∗ Pp c (hB (1 : Fin 2).val (loP c)) fullShare (PC m c 3)
          ∗ (pend c (sSt 3) 0 NB ∗ pend c (sPx 3) 0 NB ∗ pend c (sPy 3) 0 NB)) -∗ Q ⟨⟩) -∗ WP c (ph6 c) Q) := by
  iintro ⟨#HE, HO, Hr, Hpl, Hs, ⟨Hst, Ho⟩, ⟨Hpx, Htx, Hfx⟩, ⟨Hpy, Hty, Hoy⟩⟩ Hk
  unfold ph6
  simp only [wp_bind]
  iapply (zWaitR_spec m K c _ _ 3 (by decide) 16 (by decide)) $$ [Hr HO]; · iframe HE; iframe
  iintro ⟨HO, Hr, Hz⟩
  iapply (fin_spec m c 3 1 _ _ (off10_at c) fs) $$ [Hpl Hz Hs]; · iframe
  iintro ⟨Hpl, Hz, Hs⟩
  ihave Hs' := (Entails.of_eq (s_thirds c (s4B (3 : Fin 4).val) (sC m c))) $$ Hs
  icases Hs' with ⟨Ha0, Ha1, Ha2⟩
  iapply (stCopy_spec m K c 3 _ _ (off8_at c 3) fo) $$ [Hst Ha0 Ho]; · iframe HE; iframe
  iintro Hst
  iapply (xfSend_spec m K c 1 3 rfl _ (dev17_eq c) 16 rfl fx) $$ [Hpx Htx Ha1 Hfx HO]; · iframe HE; iframe
  iintro ⟨Hpx, HO⟩
  iapply (yoSend_spec m K c 1 3 rfl _ (dev18_eq c) _ _ (off8_at c 3) 17 rfl foy) $$ [Hpy Hty Ha2 Hoy HO]; · iframe HE; iframe
  iintro ⟨Hpy, HO⟩
  iapply Hk
  iframe

set_option maxHeartbeats 1000000 in
/-- Phase 7: each forwarded block stored and sent on to the diagonal. -/
theorem ph7_spec (fo fox foy : S1024x8192.Idx → Elt F .f32) (Q : PUnit → sProp 𝕄) :
    iprop(env m K ∗ ow c 18 ∗ (pend c (sXf 0) 0 NB ∗ pend c (sXf 1) 0 NB) ∗ (pend c (sYf 0) 0 NB ∗ pend c (sYf 1) 0 NB)
      ∗ (rdy c (sFc 0) 0 ∗ rdy c (sFc 1) 0 ∗ rdy c (sFc 2) 0 ∗ rdy c (sFc 3) 0)
      ∗ (rdy c (sFy 0) 0 ∗ rdy c (sFy 1) 0) ∗ (tok (yN c) (sYd 0) ∗ tok (yN c) (sYd 1))
      ∗ (rdy c (sFx 0) 0 ∗ rdy c (sFx 1) 0) ∗ (tok (xN c) (sXd 0) ∗ tok (xN c) (sXd 1))
      ∗ (Po c (oB (gcol (xN c) + 512 * (2 : Fin 4).val)) fullShare fo ∗ Po c (oB (gcol (xN c) + 512 * (3 : Fin 4).val)) fullShare fo)
      ∗ (Po c (oB (gcol (yN c) + 512 * (0 : Fin 4).val)) fullShare fo ∗ Po c (oB (gcol (yN c) + 512 * (1 : Fin 4).val)) fullShare fo)
      ∗ (Po (yN c) (oB (gcol (xN c) + 512 * (2 : Fin 4).val)) fullShare foy ∗ Po (yN c) (oB (gcol (xN c) + 512 * (3 : Fin 4).val)) fullShare foy)
      ∗ (Po (xN c) (oB (gcol (yN c) + 512 * (0 : Fin 4).val)) fullShare fox ∗ Po (xN c) (oB (gcol (yN c) + 512 * (1 : Fin 4).val)) fullShare fox))
      ⊢ iprop(((ow c 22 ∗ (done c (sXf 0) 1 ∗ done c (sXf 1) 1) ∗ (done c (sYf 0) 1 ∗ done c (sYf 1) 1)
          ∗ (pend c (sFc 0) 0 NB ∗ pend c (sFc 1) 0 NB ∗ pend c (sFc 2) 0 NB ∗ pend c (sFc 3) 0 NB)
          ∗ (pend c (sFy 0) 0 NB ∗ pend c (sFy 1) 0 NB) ∗ (pend c (sFx 0) 0 NB ∗ pend c (sFx 1) 0 NB)) -∗ Q ⟨⟩) -∗ WP c (ph7 c) Q) := by
  iintro ⟨#HE, HO, ⟨Hxf0, Hxf1⟩, ⟨Hyf0, Hyf1⟩, ⟨Hc0, Hc1, Hc2, Hc3⟩, ⟨Hsy0, Hsy1⟩, ⟨Hty0, Hty1⟩, ⟨Hsx0, Hsx1⟩, ⟨Htx0, Htx1⟩, ⟨Hox0, Hox1⟩, ⟨Hoy0, Hoy1⟩, ⟨Hoyn0, Hoyn1⟩, ⟨Hoxn0, Hoxn1⟩⟩ Hk
  unfold ph7
  simp only [wp_bind]
  iapply (blkWait_spec m K c _ (vS 2) (vFx 0) _ _ (.xf 0) (dec_xf 0) rfl rfl rfl 18 (by decide) (Pfx c (fB (0 : Fin 2).val) fullShare (fxC m c)) (BI.Entails.refl _)) $$ [Hxf0 HO]; · iframe HE; iframe
  iintro ⟨HO, Hxf0, Hb⟩
  ihave Hb' := (Entails.of_eq (fx_halves c (fB (0 : Fin 2).val) (fxC m c))) $$ Hb
  icases Hb' with ⟨Hb1, Hb2⟩
  iapply (fxCopy_spec m K c 0 2 rfl (sem4 cc0_scratch23 0) rfl _ _ (off11_at c 2) fo) $$ [Hc0 Hb2 Hox0]; · iframe HE; iframe
  iintro Hc0
  iapply (ydSend_spec m K c 0 2 rfl _ (dev19_eq c) _ _ (off11_at c 2) 18 rfl foy) $$ [Hsy0 Hty0 Hb1 Hoyn0 HO]; · iframe HE; iframe
  iintro ⟨Hsy0, HO⟩
  iapply (blkWait_spec m K c _ (vS 0) (vFy 0) _ _ (.yf 0) (dec_yf 0) rfl rfl rfl 19 (by decide) (Pfy c (fB (0 : Fin 2).val) fullShare (fyC m c)) (BI.Entails.refl _)) $$ [Hyf0 HO]; · iframe HE; iframe
  iintro ⟨HO, Hyf0, Hb⟩
  ihave Hb' := (Entails.of_eq (fy_halves c (fB (0 : Fin 2).val) (fyC m c))) $$ Hb
  icases Hb' with ⟨Hb1, Hb2⟩
  iapply (fyCopy_spec m K c 0 0 rfl (sem4 cc0_scratch23 2) rfl _ _ (off12_at c 0) fo) $$ [Hc2 Hb2 Hoy0]; · iframe HE; iframe
  iintro Hc2
  iapply (xdSend_spec m K c 0 0 rfl _ (dev20_eq c) _ _ (off12_at c 0) 19 rfl fox) $$ [Hsx0 Htx0 Hb1 Hoxn0 HO]; · iframe HE; iframe
  iintro ⟨Hsx0, HO⟩
  iapply (blkWait_spec m K c _ (vS 3) (vFx 1) _ _ (.xf 1) (dec_xf 1) rfl rfl rfl 20 (by decide) (Pfx c (fB (1 : Fin 2).val) fullShare (fxC m c)) (BI.Entails.refl _)) $$ [Hxf1 HO]; · iframe HE; iframe
  iintro ⟨HO, Hxf1, Hb⟩
  ihave Hb' := (Entails.of_eq (fx_halves c (fB (1 : Fin 2).val) (fxC m c))) $$ Hb
  icases Hb' with ⟨Hb1, Hb2⟩
  iapply (fxCopy_spec m K c 1 3 rfl (sem4 cc0_scratch23 1) rfl _ _ (off11_at c 3) fo) $$ [Hc1 Hb2 Hox1]; · iframe HE; iframe
  iintro Hc1
  iapply (ydSend_spec m K c 1 3 rfl _ (dev21_eq c) _ _ (off11_at c 3) 20 rfl foy) $$ [Hsy1 Hty1 Hb1 Hoyn1 HO]; · iframe HE; iframe
  iintro ⟨Hsy1, HO⟩
  iapply (blkWait_spec m K c _ (vS 1) (vFy 1) _ _ (.yf 1) (dec_yf 1) rfl rfl rfl 21 (by decide) (Pfy c (fB (1 : Fin 2).val) fullShare (fyC m c)) (BI.Entails.refl _)) $$ [Hyf1 HO]; · iframe HE; iframe
  iintro ⟨HO, Hyf1, Hb⟩
  ihave Hb' := (Entails.of_eq (fy_halves c (fB (1 : Fin 2).val) (fyC m c))) $$ Hb
  icases Hb' with ⟨Hb1, Hb2⟩
  iapply (fyCopy_spec m K c 1 1 rfl (sem4 cc0_scratch23 3) rfl _ _ (off12_at c 1) fo) $$ [Hc3 Hb2 Hoy1]; · iframe HE; iframe
  iintro Hc3
  iapply (xdSend_spec m K c 1 1 rfl _ (dev22_eq c) _ _ (off12_at c 1) 21 rfl fox) $$ [Hsx1 Htx1 Hb1 Hoxn1 HO]; · iframe HE; iframe
  iintro ⟨Hsx1, HO⟩
  iapply Hk
  iframe

set_option maxHeartbeats 1000000 in
/-- Phase 8: the halves have left, and every finished sum's block is stored and has left. -/
theorem ph8_spec (Q : PUnit → sProp 𝕄) :
    iprop(env m K ∗ ow c 22 ∗ (pend c (sZs 2) 0 NB ∗ pend c (sZs 3) 0 NB)
      ∗ (pend c (sPx 0) 0 NB ∗ pend c (sPx 1) 0 NB ∗ pend c (sPx 2) 0 NB ∗ pend c (sPx 3) 0 NB) ∗ (pend c (sPy 0) 0 NB ∗ pend c (sPy 1) 0 NB ∗ pend c (sPy 2) 0 NB ∗ pend c (sPy 3) 0 NB) ∗ (pend c (sSt 0) 0 NB ∗ pend c (sSt 1) 0 NB ∗ pend c (sSt 2) 0 NB ∗ pend c (sSt 3) 0 NB))
      ⊢ iprop(((ow c 22 ∗ (done c (sZs 2) 1 ∗ done c (sZs 3) 1) ∗ (Pp c (hB (0 : Fin 2).val (hiP c)) fullShare (PC m c 2) ∗ Pp c (hB (1 : Fin 2).val (hiP c)) fullShare (PC m c 3))
          ∗ (done c (sPx 0) 1 ∗ done c (sPx 1) 1 ∗ done c (sPx 2) 1 ∗ done c (sPx 3) 1) ∗ (done c (sPy 0) 1 ∗ done c (sPy 1) 1 ∗ done c (sPy 2) 1 ∗ done c (sPy 3) 1) ∗ (done c (sSt 0) 1 ∗ done c (sSt 1) 1 ∗ done c (sSt 2) 1 ∗ done c (sSt 3) 1)
          ∗ (Ps c (s4B (0 : Fin 4).val) fullShare (sC m c) ∗ Ps c (s4B (1 : Fin 4).val) fullShare (sC m c) ∗ Ps c (s4B (2 : Fin 4).val) fullShare (sC m c) ∗ Ps c (s4B (3 : Fin 4).val) fullShare (sC m c))
          ∗ (Po c (oB (gcol c + 512 * (0 : Fin 4).val)) fullShare (outC m c) ∗ Po c (oB (gcol c + 512 * (1 : Fin 4).val)) fullShare (outC m c) ∗ Po c (oB (gcol c + 512 * (2 : Fin 4).val)) fullShare (outC m c) ∗ Po c (oB (gcol c + 512 * (3 : Fin 4).val)) fullShare (outC m c))) -∗ Q ⟨⟩) -∗ WP c (ph8 c) Q) := by
  iintro ⟨#HE, HO, ⟨Hz2, Hz3⟩, ⟨Hx0, Hx1, Hx2, Hx3⟩, ⟨Hy0, Hy1, Hy2, Hy3⟩, ⟨Ht0, Ht1, Ht2, Ht3⟩⟩ Hk
  unfold ph8
  simp only [wp_bind]
  iapply (zWaitS_spec m K c _ _ 2 (by decide) 0 rfl 22) $$ [Hz2 HO]; · iframe HE; iframe
  iintro ⟨HO, Hz2, Hp2⟩
  iapply (zWaitS_spec m K c _ _ 3 (by decide) 1 rfl 22) $$ [Hz3 HO]; · iframe HE; iframe
  iintro ⟨HO, Hz3, Hp3⟩
  iapply (blkWait_spec m K c _ (o8 c 0) (vS 0) _ _ (.psx 0) (dec_psx 0) rfl rfl rfl 22 (by decide) (Ps c (s4B (0 : Fin 4).val) q1 (sC m c)) (BI.Entails.refl _)) $$ [Hx0 HO]; · iframe HE; iframe
  iintro ⟨HO, Hx0, Ha1⟩
  iapply (blkWait_spec m K c _ (vFy 0) (vS 0) _ _ (.psy 0) (dec_psy 0) rfl rfl rfl 22 (by decide) (Ps c (s4B (0 : Fin 4).val) q2 (sC m c)) (BI.Entails.refl _)) $$ [Hy0 HO]; · iframe HE; iframe
  iintro ⟨HO, Hy0, Ha2⟩
  iapply (blkWait_spec m K c _ (vS 0) (o8 c 0) _ _ (.st 0) (dec_st 0) rfl rfl rfl 22 (by decide) (iprop(Po c (oB (gcol c + 512 * (0 : Fin 4).val)) fullShare (outC m c) ∗ Ps c (s4B (0 : Fin 4).val) q0 (sC m c))) (BI.Entails.refl _)) $$ [Ht0 HO]; · iframe HE; iframe
  iintro ⟨HO, Ht0, ⟨Ho0, Ha0⟩⟩
  ihave Hs0 := (Entails.of_eq (s_thirds c (s4B (0 : Fin 4).val) (sC m c)).symm) $$ [Ha0 Ha1 Ha2]; · iframe
  iapply (blkWait_spec m K c _ (o8 c 1) (vS 1) _ _ (.psx 1) (dec_psx 1) rfl rfl rfl 22 (by decide) (Ps c (s4B (1 : Fin 4).val) q1 (sC m c)) (BI.Entails.refl _)) $$ [Hx1 HO]; · iframe HE; iframe
  iintro ⟨HO, Hx1, Ha1⟩
  iapply (blkWait_spec m K c _ (vFy 1) (vS 1) _ _ (.psy 1) (dec_psy 1) rfl rfl rfl 22 (by decide) (Ps c (s4B (1 : Fin 4).val) q2 (sC m c)) (BI.Entails.refl _)) $$ [Hy1 HO]; · iframe HE; iframe
  iintro ⟨HO, Hy1, Ha2⟩
  iapply (blkWait_spec m K c _ (vS 1) (o8 c 1) _ _ (.st 1) (dec_st 1) rfl rfl rfl 22 (by decide) (iprop(Po c (oB (gcol c + 512 * (1 : Fin 4).val)) fullShare (outC m c) ∗ Ps c (s4B (1 : Fin 4).val) q0 (sC m c))) (BI.Entails.refl _)) $$ [Ht1 HO]; · iframe HE; iframe
  iintro ⟨HO, Ht1, ⟨Ho1, Ha0⟩⟩
  ihave Hs1 := (Entails.of_eq (s_thirds c (s4B (1 : Fin 4).val) (sC m c)).symm) $$ [Ha0 Ha1 Ha2]; · iframe
  iapply (blkWait_spec m K c _ (vFx 0) (vS 2) _ _ (.psx 2) (dec_psx 2) rfl rfl rfl 22 (by decide) (Ps c (s4B (2 : Fin 4).val) q1 (sC m c)) (BI.Entails.refl _)) $$ [Hx2 HO]; · iframe HE; iframe
  iintro ⟨HO, Hx2, Ha1⟩
  iapply (blkWait_spec m K c _ (o8 c 2) (vS 2) _ _ (.psy 2) (dec_psy 2) rfl rfl rfl 22 (by decide) (Ps c (s4B (2 : Fin 4).val) q2 (sC m c)) (BI.Entails.refl _)) $$ [Hy2 HO]; · iframe HE; iframe
  iintro ⟨HO, Hy2, Ha2⟩
  iapply (blkWait_spec m K c _ (vS 2) (o8 c 2) _ _ (.st 2) (dec_st 2) rfl rfl rfl 22 (by decide) (iprop(Po c (oB (gcol c + 512 * (2 : Fin 4).val)) fullShare (outC m c) ∗ Ps c (s4B (2 : Fin 4).val) q0 (sC m c))) (BI.Entails.refl _)) $$ [Ht2 HO]; · iframe HE; iframe
  iintro ⟨HO, Ht2, ⟨Ho2, Ha0⟩⟩
  ihave Hs2 := (Entails.of_eq (s_thirds c (s4B (2 : Fin 4).val) (sC m c)).symm) $$ [Ha0 Ha1 Ha2]; · iframe
  iapply (blkWait_spec m K c _ (vFx 1) (vS 3) _ _ (.psx 3) (dec_psx 3) rfl rfl rfl 22 (by decide) (Ps c (s4B (3 : Fin 4).val) q1 (sC m c)) (BI.Entails.refl _)) $$ [Hx3 HO]; · iframe HE; iframe
  iintro ⟨HO, Hx3, Ha1⟩
  iapply (blkWait_spec m K c _ (o8 c 3) (vS 3) _ _ (.psy 3) (dec_psy 3) rfl rfl rfl 22 (by decide) (Ps c (s4B (3 : Fin 4).val) q2 (sC m c)) (BI.Entails.refl _)) $$ [Hy3 HO]; · iframe HE; iframe
  iintro ⟨HO, Hy3, Ha2⟩
  iapply (blkWait_spec m K c _ (vS 3) (o8 c 3) _ _ (.st 3) (dec_st 3) rfl rfl rfl 22 (by decide) (iprop(Po c (oB (gcol c + 512 * (3 : Fin 4).val)) fullShare (outC m c) ∗ Ps c (s4B (3 : Fin 4).val) q0 (sC m c))) (BI.Entails.refl _)) $$ [Ht3 HO]; · iframe HE; iframe
  iintro ⟨HO, Ht3, ⟨Ho3, Ha0⟩⟩
  ihave Hs3 := (Entails.of_eq (s_thirds c (s4B (3 : Fin 4).val) (sC m c)).symm) $$ [Ha0 Ha1 Ha2]; · iframe
  iapply Hk
  iframe

/-- What the wait for a forwarded sum of the x neighbour's hands over. -/
theorem pay_fcx (f : Fin 2) : pay m c 0 (.fc (f.castLE (by decide))) ⊢ iprop(Po c (oB (gcol (xN c) + 512 * (2 + f.val))) fullShare (outC m c) ∗ Pfx c (fB f.val) fullShare.right (fxC m c)) := by
  rw [pay, if_pos (show (f.castLE (by decide) : Fin 4).val < 2 from f.isLt)]; exact BI.Entails.refl _
/-- What the wait for a forwarded sum of the y neighbour's hands over. -/
theorem pay_fcy (f : Fin 2) : pay m c 0 (.fc (2 + f.castLE (by decide))) ⊢ iprop(Po c (oB (gcol (yN c) + 512 * f.val)) fullShare (outC m c) ∗ Pfy c (fB f.val) fullShare.right (fyC m c)) := by
  rw [pay, if_neg (fc_ge f), fc_sub f]

set_option maxHeartbeats 1000000 in
/-- Phase 9: the other column groups' blocks have come, and the forwarded blocks have left. -/
theorem ph9_spec (f : Fin 2) (Q : PUnit → sProp 𝕄) :
    iprop(env m K ∗ ow c 22 ∗ pend c (sFy f) 0 NB ∗ pend c (sFx f) 0 NB ∗ pend c (sFc (f.castLE (by decide))) 0 NB ∗ pend c (sFc (2 + f.castLE (by decide))) 0 NB
      ∗ pend c (sXo f) 0 NB ∗ pend c (sYo f) 0 NB ∗ pend c (sXd f) 0 NB ∗ pend c (sYd f) 0 NB)
      ⊢ iprop(((ow c 22 ∗ (done c (sFy f) 1 ∗ done c (sFx f) 1 ∗ done c (sFc (f.castLE (by decide))) 1 ∗ done c (sFc (2 + f.castLE (by decide))) 1
            ∗ done c (sXo f) 1 ∗ done c (sYo f) 1 ∗ done c (sXd f) 1 ∗ done c (sYd f) 1)
          ∗ Pfx c (fB f.val) fullShare (fxC m c) ∗ Pfy c (fB f.val) fullShare (fyC m c)
          ∗ (Po c (oB (gcol (xN c) + 512 * f.val)) fullShare (outC m c) ∗ Po c (oB (gcol (xN c) + 512 * (2 + f.val))) fullShare (outC m c))
          ∗ (Po c (oB (gcol (yN c) + 512 * f.val)) fullShare (outC m c) ∗ Po c (oB (gcol (yN c) + 512 * (2 + f.val))) fullShare (outC m c))
          ∗ (Po c (oB (gcol (xN (yN c)) + 512 * f.val)) fullShare (outC m c) ∗ Po c (oB (gcol (xN (yN c)) + 512 * (2 + f.val))) fullShare (outC m c))) -∗ Q ⟨⟩) -∗ WP c (ph9 c f) Q) := by
  iintro ⟨#HE, HO, Hsy, Hsx, Hc0, Hc2, Hxo, Hyo, Hxd, Hyd⟩ Hk
  unfold ph9
  simp only [wp_bind]
  iapply (blkWait_spec m K c _ _ _ _ _ (.fsy f) (dec_fsy f) rfl rfl rfl 22 (fun p hp => absurd hp (by decide +revert)) (Pfx c (fB f.val) fullShare.left (fxC m c)) (BI.Entails.refl _)) $$ [Hsy HO]; · iframe HE; iframe
  iintro ⟨HO, Hsy, Hx1⟩
  iapply (blkWait_spec m K c _ _ _ _ _ (.fsx f) (dec_fsx f) rfl rfl rfl 22 (fun p hp => absurd hp (by decide +revert)) (Pfy c (fB f.val) fullShare.left (fyC m c)) (BI.Entails.refl _)) $$ [Hsx HO]; · iframe HE; iframe
  iintro ⟨HO, Hsx, Hy1⟩
  iapply (blkWait_spec m K c _ _ _ _ _ _ (dec_fc _) rfl rfl rfl 22 (fun p hp => absurd hp (by decide +revert)) (iprop(Po c (oB (gcol (xN c) + 512 * (2 + f.val))) fullShare (outC m c) ∗ Pfx c (fB f.val) fullShare.right (fxC m c))) (pay_fcx m c f)) $$ [Hc0 HO]; · iframe HE; iframe
  iintro ⟨HO, Hc0, ⟨Ho1, Hx2⟩⟩
  iapply (blkWait_spec m K c _ _ _ _ _ _ (dec_fc _) rfl rfl rfl 22 (fun p hp => absurd hp (by decide +revert)) (iprop(Po c (oB (gcol (yN c) + 512 * f.val)) fullShare (outC m c) ∗ Pfy c (fB f.val) fullShare.right (fyC m c))) (pay_fcy m c f)) $$ [Hc2 HO]; · iframe HE; iframe
  iintro ⟨HO, Hc2, ⟨Ho2, Hy2⟩⟩
  ihave Hfx := (Entails.of_eq (fx_halves c (fB f.val) (fxC m c)).symm) $$ [Hx1 Hx2]; · iframe
  ihave Hfy := (Entails.of_eq (fy_halves c (fB f.val) (fyC m c)).symm) $$ [Hy1 Hy2]; · iframe
  iapply (blkWait_spec m K c _ _ _ _ _ (.xo f) (dec_xo f) rfl rfl rfl 22 (fun p hp => absurd hp (by decide +revert)) (Po c (oB (gcol (xN c) + 512 * f.val)) fullShare (outC m c)) (BI.Entails.refl _)) $$ [Hxo HO]; · iframe HE; iframe
  iintro ⟨HO, Hxo, Ho3⟩
  iapply (blkWait_spec m K c _ _ _ _ _ (.yo f) (dec_yo f) rfl rfl rfl 22 (fun p hp => absurd hp (by decide +revert)) (Po c (oB (gcol (yN c) + 512 * (2 + f.val))) fullShare (outC m c)) (BI.Entails.refl _)) $$ [Hyo HO]; · iframe HE; iframe
  iintro ⟨HO, Hyo, Ho4⟩
  iapply (blkWait_spec m K c _ _ _ _ _ (.xd f) (dec_xd f) rfl rfl rfl 22 (fun p hp => absurd hp (by decide +revert)) (Po c (oB (gcol (xN (yN c)) + 512 * f.val)) fullShare (outC m c)) (BI.Entails.refl _)) $$ [Hxd HO]; · iframe HE; iframe
  iintro ⟨HO, Hxd, Ho5⟩
  iapply (blkWait_spec m K c _ _ _ _ _ (.yd f) (dec_yd f) rfl rfl rfl 22 (fun p hp => absurd hp (by decide +revert)) (Po c (oB (gcol (xN (yN c)) + 512 * (2 + f.val))) fullShare (outC m c)) (BI.Entails.refl _)) $$ [Hyd HO]; · iframe HE; iframe
  iintro ⟨HO, Hyd, Ho6⟩
  iapply Hk
  iframe

end Cert.KernelIdeal.Own

end
-- ==== Proof.Main.lean ====
/-
The whole body: the phases in order, from the state a device starts in to the state it leaves.
-/
module

public import proofs.«01_k».proof.Proof.Body

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)
/-- The rights and positions for the two semaphores no transfer uses. -/
def in0 (c : Dev nD) : sProp 𝕄 := iprop(done c (sZs 0) 0 ∗ done c (sZr 0) 0)

/-- The rights and positions for the start: `x`, the first blocks of `dy`, and meeting the neighbours. -/
def in1 (c : Dev nD) : sProp 𝕄 := iprop(rdy c sX 0 ∗ (btok c 0 ∗ btok c 1 ∗ btok c 2) ∗ pend c sBar 0 3 ∗ (rdy c (sDy 0) 0 ∗ rdy c (sDy 1) 0))

/-- The rights and positions for block 0's product and its four transfers. -/
def in2 (c : Dev nD) : sProp 𝕄 := iprop((rdy c (sZ0s 0) 0 ∗ rdy c (sZ0s 1) 0 ∗ rdy c (sZ0s 2) 0 ∗ rdy c (sZ0s 3) 0) ∗ (tok (zN c) (sZ0r 0) ∗ tok (zN c) (sZ0r 1) ∗ tok (zN c) (sZ0r 2) ∗ tok (zN c) (sZ0r 3)))

/-- The rights and positions for block 1's product, and block 0's sum sent on. -/
def in3 (c : Dev nD) : sProp 𝕄 := iprop(tk1 c (sDy 0) ∗ tk1 c (sDy 1) ∗ rdy c (sZs 1) 0 ∗ tok (zN c) (sZr 1) ∗ (pend c (sZ0r 0) 0 NK ∗ pend c (sZ0r 1) 0 NK ∗ pend c (sZ0r 2) 0 NK ∗ pend c (sZ0r 3) 0 NK) ∗ rdy c (sSt 0) 0 ∗ rdy c (sPx 0) 0 ∗ tok (xN c) (sXo 0) ∗ rdy c (sPy 0) 0 ∗ tok (yN c) (sYf 0))

/-- The rights and positions for block 2's product, and block 1's sum sent on. -/
def in4 (c : Dev nD) : sProp 𝕄 := iprop(rdy c (sZs 2) 0 ∗ tok (zN c) (sZr 2) ∗ pend c (sZr 1) 0 NB ∗ rdy c (sSt 1) 0 ∗ rdy c (sPx 1) 0 ∗ tok (xN c) (sXo 1) ∗ rdy c (sPy 1) 0 ∗ tok (yN c) (sYf 1))

/-- The rights and positions for block 3's product, and block 2's sum sent on. -/
def in5 (c : Dev nD) : sProp 𝕄 := iprop(rdy c (sZs 3) 0 ∗ tok (zN c) (sZr 3) ∗ pend c (sZr 2) 0 NB ∗ rdy c (sSt 2) 0 ∗ rdy c (sPx 2) 0 ∗ tok (xN c) (sXf 0) ∗ rdy c (sPy 2) 0 ∗ tok (yN c) (sYo 0))

/-- The rights and positions for block 3's sum sent on. -/
def in6 (c : Dev nD) : sProp 𝕄 := iprop(pend c (sZr 3) 0 NB ∗ rdy c (sSt 3) 0 ∗ rdy c (sPx 3) 0 ∗ tok (xN c) (sXf 1) ∗ rdy c (sPy 3) 0 ∗ tok (yN c) (sYo 1))

/-- The rights and positions for forwarding. -/
def in7 (c : Dev nD) : sProp 𝕄 := iprop((pend c (sXf 0) 0 NB ∗ pend c (sXf 1) 0 NB) ∗ (pend c (sYf 0) 0 NB ∗ pend c (sYf 1) 0 NB) ∗ (rdy c (sFc 0) 0 ∗ rdy c (sFc 1) 0 ∗ rdy c (sFc 2) 0 ∗ rdy c (sFc 3) 0) ∗ (rdy c (sFy 0) 0 ∗ rdy c (sFy 1) 0) ∗ (tok (yN c) (sYd 0) ∗ tok (yN c) (sYd 1)) ∗ (rdy c (sFx 0) 0 ∗ rdy c (sFx 1) 0) ∗ (tok (xN c) (sXd 0) ∗ tok (xN c) (sXd 1)))

/-- The rights and positions for the last waits. -/
def in9 (c : Dev nD) : sProp 𝕄 := iprop((pend c (sXo 0) 0 NB ∗ pend c (sXo 1) 0 NB) ∗ (pend c (sYo 0) 0 NB ∗ pend c (sYo 1) 0 NB) ∗ (pend c (sXd 0) 0 NB ∗ pend c (sXd 1) 0 NB) ∗ (pend c (sYd 0) 0 NB ∗ pend c (sYd 1) 0 NB))

/-- All a device starts with of the protocol. -/
def ini (c : Dev nD) : sProp 𝕄 := iprop(in0 c ∗ in1 c ∗ in2 c ∗ in3 c ∗ in4 c ∗ in5 c ∗ in6 c ∗ in7 c ∗ in9 c)

/-- Every semaphore at its last round. -/
def done9 (c : Dev nD) : sProp 𝕄 := iprop(in0 c ∗ done c sBar 1 ∗ done c sX 1 ∗ done c (sDy 0) 2 ∗ done c (sDy 1) 2 ∗ (done c (sZ0r 0) 1 ∗ done c (sZ0r 1) 1 ∗ done c (sZ0r 2) 1 ∗ done c (sZ0r 3) 1) ∗ (done c (sZ0s 0) 1 ∗ done c (sZ0s 1) 1 ∗ done c (sZ0s 2) 1 ∗ done c (sZ0s 3) 1) ∗ done c (sZr 1) 1 ∗ done c (sZr 2) 1 ∗ done c (sZr 3) 1 ∗ done c (sZs 1) 1 ∗ (done c (sZs 2) 1 ∗ done c (sZs 3) 1) ∗ (done c (sXf 0) 1 ∗ done c (sXf 1) 1) ∗ (done c (sYf 0) 1 ∗ done c (sYf 1) 1) ∗ (done c (sPx 0) 1 ∗ done c (sPx 1) 1 ∗ done c (sPx 2) 1 ∗ done c (sPx 3) 1) ∗ (done c (sPy 0) 1 ∗ done c (sPy 1) 1 ∗ done c (sPy 2) 1 ∗ done c (sPy 3) 1) ∗ (done c (sSt 0) 1 ∗ done c (sSt 1) 1 ∗ done c (sSt 2) 1 ∗ done c (sSt 3) 1) ∗ (done c (sFy 0) 1 ∗ done c (sFx 0) 1 ∗ done c (sFc 0) 1 ∗ done c (sFc 2) 1 ∗ done c (sXo 0) 1 ∗ done c (sYo 0) 1 ∗ done c (sXd 0) 1 ∗ done c (sYd 0) 1) ∗ (done c (sFy 1) 1 ∗ done c (sFx 1) 1 ∗ done c (sFc 1) 1 ∗ done c (sFc 3) 1 ∗ done c (sXo 1) 1 ∗ done c (sYo 1) 1 ∗ done c (sXd 1) 1 ∗ done c (sYd 1) 1))

/-- Phase 9 at forwarded slot 0. -/
theorem ph9_spec0 (Q : PUnit → sProp 𝕄) :
    iprop(env m K ∗ ow c 22 ∗ pend c (sFy 0) 0 NB ∗ pend c (sFx 0) 0 NB ∗ pend c (sFc 0) 0 NB ∗ pend c (sFc 2) 0 NB
      ∗ pend c (sXo 0) 0 NB ∗ pend c (sYo 0) 0 NB ∗ pend c (sXd 0) 0 NB ∗ pend c (sYd 0) 0 NB)
      ⊢ iprop(((ow c 22 ∗ (done c (sFy 0) 1 ∗ done c (sFx 0) 1 ∗ done c (sFc 0) 1 ∗ done c (sFc 2) 1 ∗ done c (sXo 0) 1 ∗ done c (sYo 0) 1 ∗ done c (sXd 0) 1 ∗ done c (sYd 0) 1)
          ∗ Pfx c (fB (0 : Fin 2).val) fullShare (fxC m c) ∗ Pfy c (fB (0 : Fin 2).val) fullShare (fyC m c)
          ∗ (Po c (oB (gcol (xN c) + 512 * (0 : Fin 4).val)) fullShare (outC m c) ∗ Po c (oB (gcol (xN c) + 512 * (2 : Fin 4).val)) fullShare (outC m c))
          ∗ (Po c (oB (gcol (yN c) + 512 * (0 : Fin 4).val)) fullShare (outC m c) ∗ Po c (oB (gcol (yN c) + 512 * (2 : Fin 4).val)) fullShare (outC m c))
          ∗ (Po c (oB (gcol (xN (yN c)) + 512 * (0 : Fin 4).val)) fullShare (outC m c) ∗ Po c (oB (gcol (xN (yN c)) + 512 * (2 : Fin 4).val)) fullShare (outC m c))) -∗ Q ⟨⟩) -∗ WP c (ph9 c 0) Q) :=
  ph9_spec m K c 0 Q

/-- Phase 9 at forwarded slot 1. -/
theorem ph9_spec1 (Q : PUnit → sProp 𝕄) :
    iprop(env m K ∗ ow c 22 ∗ pend c (sFy 1) 0 NB ∗ pend c (sFx 1) 0 NB ∗ pend c (sFc 1) 0 NB ∗ pend c (sFc 3) 0 NB
      ∗ pend c (sXo 1) 0 NB ∗ pend c (sYo 1) 0 NB ∗ pend c (sXd 1) 0 NB ∗ pend c (sYd 1) 0 NB)
      ⊢ iprop(((ow c 22 ∗ (done c (sFy 1) 1 ∗ done c (sFx 1) 1 ∗ done c (sFc 1) 1 ∗ done c (sFc 3) 1 ∗ done c (sXo 1) 1 ∗ done c (sYo 1) 1 ∗ done c (sXd 1) 1 ∗ done c (sYd 1) 1)
          ∗ Pfx c (fB (1 : Fin 2).val) fullShare (fxC m c) ∗ Pfy c (fB (1 : Fin 2).val) fullShare (fyC m c)
          ∗ (Po c (oB (gcol (xN c) + 512 * (1 : Fin 4).val)) fullShare (outC m c) ∗ Po c (oB (gcol (xN c) + 512 * (3 : Fin 4).val)) fullShare (outC m c))
          ∗ (Po c (oB (gcol (yN c) + 512 * (1 : Fin 4).val)) fullShare (outC m c) ∗ Po c (oB (gcol (yN c) + 512 * (3 : Fin 4).val)) fullShare (outC m c))
          ∗ (Po c (oB (gcol (xN (yN c)) + 512 * (1 : Fin 4).val)) fullShare (outC m c) ∗ Po c (oB (gcol (xN (yN c)) + 512 * (3 : Fin 4).val)) fullShare (outC m c))) -∗ Q ⟨⟩) -∗ WP c (ph9 c 1) Q) :=
  ph9_spec m K c 1 Q

/-- What a device hands the neighbour it signals, in its own terms. -/
theorem give0 (f : S4x1024x512.Idx → Elt F .f32) : Pz c Finset.univ fullShare f ⊢ barPay m (nb 0 c) 0 := by
  show _ ⊢ iprop(∃ f, Pz (zN (zN c)) Finset.univ fullShare f)
  rw [zN_zN]; iintro H; iexists f; iexact H
/-- What the signal to the x neighbour hands it. -/
theorem give1 (f : S2x1024x512.Idx → Elt F .f32) :
    iprop(Pfx c Finset.univ fullShare f ∗ (Po c (oB (gcol (xN c) + 512 * (0 : Fin 4).val)) fullShare (outI m c) ∗ Po c (oB (gcol (xN c) + 512 * (1 : Fin 4).val)) fullShare (outI m c)) ∗ Po c (oB (gcol (xN (yN c)) + 512 * (0 : Fin 4).val)) fullShare (outI m c) ∗ Po c (oB (gcol (xN (yN c)) + 512 * (1 : Fin 4).val)) fullShare (outI m c)) ⊢ barPay m (nb 1 c) 1 := by
  unfold barPay nb; dsimp only; rw [xN_xN, ← xN_yN]
  iintro ⟨H, H1, H2, H3⟩
  isplitl [H]; · iexists f; iexact H
  iframe
/-- What the signal to the y neighbour hands it. -/
theorem give2 (f : S2x1024x512.Idx → Elt F .f32) :
    iprop(Pfy c Finset.univ fullShare f ∗ (Po c (oB (gcol (yN c) + 512 * (2 : Fin 4).val)) fullShare (outI m c) ∗ Po c (oB (gcol (yN c) + 512 * (3 : Fin 4).val)) fullShare (outI m c)) ∗ Po c (oB (gcol (xN (yN c)) + 512 * (2 : Fin 4).val)) fullShare (outI m c) ∗ Po c (oB (gcol (xN (yN c)) + 512 * (3 : Fin 4).val)) fullShare (outI m c)) ⊢ barPay m (nb 2 c) 2 := by
  unfold barPay nb; dsimp only; rw [yN_yN]
  iintro ⟨H, H1, H2, H3⟩
  isplitl [H]; · iexists f; iexact H
  iframe

set_option maxHeartbeats 4000000 in
/-- The body, from a device's rights, its rows of `x` and `dy`, its result's memory and its buffers, runs to the end of every round with the
    result computed, `x` and `dy` as they were, and the buffers its own again. -/
theorem prog_spec (fx : S2048x2048.Idx → Elt F .f32) (fd fp : S2x2048x512.Idx → Elt F .f32) (fz fs : S4x1024x512.Idx → Elt F .f32) (ffx ffy : S2x1024x512.Idx → Elt F .f32)
    (Q : PUnit → sProp 𝕄) :
    iprop(env m K ∗ ow c 0 ∗ ini c ∗ Px c Finset.univ fullShare (xC m c) ∗ Pd c Finset.univ fullShare (dyAt m c) ∗ Po c Finset.univ fullShare (outI m c)
      ∗ Pxv c Finset.univ fullShare fx ∗ Pdv c Finset.univ fullShare fd ∗ Pp c Finset.univ fullShare fp ∗ Pz c Finset.univ fullShare fz
      ∗ Ps c Finset.univ fullShare fs ∗ Pfx c Finset.univ fullShare ffx ∗ Pfy c Finset.univ fullShare ffy)
      ⊢ iprop(((ow c 22 ∗ done9 c ∗ Px c Finset.univ fullShare (xC m c) ∗ Pd c Finset.univ fullShare (dyAt m c) ∗ Po c Finset.univ fullShare (outC m c)
          ∗ (∃ f, Pxv c Finset.univ fullShare f) ∗ (∃ f, Pdv c Finset.univ fullShare f) ∗ (∃ f, Pp c Finset.univ fullShare f) ∗ (∃ f, Pz c Finset.univ fullShare f)
          ∗ (∃ f, Ps c Finset.univ fullShare f) ∗ (∃ f, Pfx c Finset.univ fullShare f) ∗ (∃ f, Pfy c Finset.univ fullShare f)) -∗ Q ⟨⟩) -∗ WP c (prog c) Q) := by
  unfold ini in1 in2 in3 in4 in5 in6 in7 in9
  iintro ⟨#HE, HO, ⟨I0, I1, I2, I3, I4, I5, I6, I7, I9⟩, Hx, Hd, Ho, Hxv, Hdv, Hp, Hz, Hs, Hfx, Hfy⟩ Hk
  unfold prog
  simp only [wp_bind]
  ihave Hdv' := (Entails.of_eq (dv_split c fullShare fd)) $$ Hdv
  icases Hdv' with ⟨Hv0, Hv1⟩
  ihave Hp' := (Entails.of_eq (pp_split c fullShare fp)) $$ Hp
  icases Hp' with ⟨Hp0, Hp1⟩
  ihave Hp0' := (Entails.of_eq (pp_cols c fullShare fp)) $$ Hp0
  ihave Hs' := (Entails.of_eq (s_split c fullShare fs)) $$ Hs
  icases Hs' with ⟨Hs0, Hs1, Hs2, Hs3⟩
  ihave Hd' := (Entails.of_eq (d_split c fullShare (dyAt m c))) $$ Hd
  icases Hd' with ⟨⟨Hd0, Hd1, Hd2, Hd3⟩, Hdr⟩
  ihave Ho' := (Entails.of_eq (o_groups c fullShare (outI m c))) $$ Ho
  icases Ho' with ⟨Hoc, Hox, Hoy, Hoxy⟩
  ihave Hoc' := (Entails.of_eq (og_split c fullShare c (outI m c))) $$ Hoc
  icases Hoc' with ⟨Hc0, Hc1, Hc2, Hc3⟩
  ihave Hox' := (Entails.of_eq (og_split c fullShare (xN c) (outI m c))) $$ Hox
  icases Hox' with ⟨Hox0, Hox1, Hox2, Hox3⟩
  ihave Hoy' := (Entails.of_eq (og_split c fullShare (yN c) (outI m c))) $$ Hoy
  icases Hoy' with ⟨Hoy0, Hoy1, Hoy2, Hoy3⟩
  ihave Hoxy' := (Entails.of_eq (og_split c fullShare (xN (yN c)) (outI m c))) $$ Hoxy
  icases Hoxy' with ⟨Hxy0, Hxy1, Hxy2, Hxy3⟩
  ihave G0 := (give0 m c fz) $$ Hz
  ihave G1 := (give1 m c ffx) $$ [Hfx Hox0 Hox1 Hxy0 Hxy1]; · iframe
  ihave G2 := (give2 m c ffy) $$ [Hfy Hoy2 Hoy3 Hxy2 Hxy3]; · iframe
  icases I1 with ⟨Ix, Ib, Ir, Iy⟩
  iapply (ph1_spec m K c fx fd) $$ [HO Ix Hx Hxv Ib G0 G1 G2 Ir Iy Hd0 Hd1 Hv0 Hv1]; · iframe HE; iframe
  iintro ⟨HO, Hxp, Dbar, ⟨G0, G1, G2⟩, Hy0, Hy1⟩
  ihave G0' := (show barPay m c 0 ⊢ (iprop(∃ f, Pz (zN c) Finset.univ fullShare f) : sProp 𝕄) from BI.Entails.refl _) $$ G0
  icases G0' with ⟨%gz, G0⟩
  ihave G0' := (Entails.of_eq (z_split (zN c) fullShare gz)) $$ G0
  icases G0' with ⟨Z0, Z1, Z2, Z3⟩
  ihave Z0' := (Entails.of_eq (z_cols (zN c) fullShare gz)) $$ Z0
  unfold barPay; dsimp only
  icases G1 with ⟨⟨%gx, G1⟩, ⟨Nx0, Nx1⟩, Nxy0, Nxy1⟩
  ihave G1' := (Entails.of_eq (fx_split (xN c) fullShare gx)) $$ G1
  icases G1' with ⟨Fx0, Fx1⟩
  icases G2 with ⟨⟨%gy, G2⟩, ⟨Ny2, Ny3⟩, Nyx2, Nyx3⟩
  ihave G2' := (Entails.of_eq (fy_split (yN c) fullShare gy)) $$ G2
  icases G2' with ⟨Fy0, Fy1⟩
  icases I2 with ⟨Is, It⟩
  iapply (ph2_spec m K c fp gz) $$ [HO Hy0 Hxp Hp0' Z0' Is It]; · iframe HE; iframe
  iintro ⟨HO, Hy0, Dx, Hv0, Hd0, Hxv, Hx, Wz0s, Hpl0⟩
  icases I3 with ⟨T0, T1, Is, It, Iz, Ist, Ipx, Itx, Ipy, Ity⟩
  iapply (ph3_spec m K c (dvC m c 0) fp gz fs (outI m c) (outI m (xN c)) gy) $$ [HO Hy0 T0 Hd2 Hv0 Hy1 T1 Hd3 Hxv Hp1 Is It Z1 Iz Hpl0 Hs0 Ist Hc0 Ipx Itx Nx0 Ipy Ity Fy0]; · iframe HE; iframe
  iintro ⟨HO, Dy0, Hv0, Hd2, Hy1, Hd1, Hxv, Ws1, Hpl1, Dz0r, Y0, Hpl0, ⟨St0, Px0, Py0⟩⟩
  icases I4 with ⟨Is, It, Iz, Ist, Ipx, Itx, Ipy, Ity⟩
  iapply (ph4_spec m K c gz fs (outI m c) (outI m (xN c)) gy) $$ [HO Wz0s Hpl0 Hxv Hv0 Is It Z2 Hy1 Iz Hpl1 Hs1 Ist Hc1 Ipx Itx Nx1 Ipy Ity Fy1]; · iframe HE; iframe
  iintro ⟨HO, Dz0s, Hxv, Hv0, Ws2, Hpl0, Dy1, Hv1, Hd3, Dzr1, Y1, Hpl1, ⟨St1, Px1, Py1⟩⟩
  icases I5 with ⟨Is, It, Iz, Ist, Ipx, Itx, Ipy, Ity⟩
  iapply (ph5_spec m K c gz fs (outI m c) (outI m (yN c)) gx) $$ [HO Ws1 Hpl1 Hxv Hv1 Is It Z3 Iz Hpl0 Hs2 Ist Hc2 Ipx Itx Fx0 Ipy Ity Ny2]; · iframe HE; iframe
  iintro ⟨HO, Dzs1, Hxv, Hv1, Ws3, Hpl1, Dzr2, Y2, Hpl0, ⟨St2, Px2, Py2⟩⟩
  icases I6 with ⟨Iz, Ist, Ipx, Itx, Ipy, Ity⟩
  iapply (ph6_spec m K c fs (outI m c) (outI m (yN c)) gx) $$ [HO Iz Hpl1 Hs3 Ist Hc3 Ipx Itx Fx1 Ipy Ity Ny3]; · iframe HE; iframe
  iintro ⟨HO, Dzr3, Y3, Hpl1, ⟨St3, Px3, Py3⟩⟩
  icases I7 with ⟨Ixf, Iyf, Ifc, Ify, Ityd, Ifx, Itxd⟩
  iapply (ph7_spec m K c (outI m c) (outI m (xN c)) (outI m (yN c))) $$ [HO Ixf Iyf Ifc Ify Ityd Ifx Itxd Hox2 Hox3 Hoy0 Hoy1 Nyx2 Nyx3 Nxy0 Nxy1]; · iframe HE; iframe
  iintro ⟨HO, Dxf, Dyf, ⟨Wc0, Wc1, Wc2, Wc3⟩, ⟨Wy0, Wy1⟩, ⟨Wx0, Wx1⟩⟩
  iapply (ph8_spec m K c) $$ [HO Ws2 Ws3 Px0 Px1 Px2 Px3 Py0 Py1 Py2 Py3 St0 St1 St2 St3]; · iframe HE; iframe
  iintro ⟨HO, Dzs, ⟨Hph0, Hph1⟩, Dpx, Dpy, Dst, Hs, Hoc⟩
  icases I9 with ⟨⟨Ixo0, Ixo1⟩, ⟨Iyo0, Iyo1⟩, ⟨Ixd0, Ixd1⟩, ⟨Iyd0, Iyd1⟩⟩
  iapply (ph9_spec0 m K c) $$ [HO Wy0 Wx0 Wc0 Wc2 Ixo0 Iyo0 Ixd0 Iyd0]; · iframe HE; iframe
  iintro ⟨HO, D90, Fx0, Fy0, ⟨Ox0, Ox2⟩, ⟨Oy0, Oy2⟩, ⟨Oz0, Oz2⟩⟩
  iapply (ph9_spec1 m K c) $$ [HO Wy1 Wx1 Wc1 Wc3 Ixo1 Iyo1 Ixd1 Iyd1]; · iframe HE; iframe
  iintro ⟨HO, D91, Fx1, Fy1, ⟨Ox1, Ox3⟩, ⟨Oy1, Oy3⟩, ⟨Oz1, Oz3⟩⟩
  ihave Gx := (Entails.of_eq (og_split c fullShare (xN c) (outC m c)).symm) $$ [Ox0 Ox1 Ox2 Ox3]; · iframe
  ihave Gy := (Entails.of_eq (og_split c fullShare (yN c) (outC m c)).symm) $$ [Oy0 Oy1 Oy2 Oy3]; · iframe
  ihave Gz := (Entails.of_eq (og_split c fullShare (xN (yN c)) (outC m c)).symm) $$ [Oz0 Oz1 Oz2 Oz3]; · iframe
  ihave Gc := (Entails.of_eq (og_split c fullShare c (outC m c)).symm) $$ Hoc
  ihave Ho := (Entails.of_eq (o_groups c fullShare (outC m c)).symm) $$ [Gc Gx Gy Gz]; · iframe
  ihave Hd := (Entails.of_eq (d_split c fullShare (dyAt m c)).symm) $$ [Hd0 Hd1 Hd2 Hd3 Hdr]; · iframe
  ihave Hfx := (Entails.of_eq (fx_split c fullShare (fxC m c)).symm) $$ [Fx0 Fx1]; · iframe
  ihave Hfy := (Entails.of_eq (fy_split c fullShare (fyC m c)).symm) $$ [Fy0 Fy1]; · iframe
  ihave Hs := (Entails.of_eq (s_split c fullShare (sC m c)).symm) $$ Hs
  ihave Hz := (Entails.of_eq (z_split c fullShare (zW m c)).symm) $$ [Y0 Y1 Y2 Y3]; · iframe
  ihave Hq0 := (Entails.of_eq (pp_half c fullShare (0 : Fin 2).val (PC m c 2)).symm) $$ [Hph0 Hpl0]; · iframe
  ihave Hq1 := (Entails.of_eq (pp_half c fullShare (1 : Fin 2).val (PC m c 3)).symm) $$ [Hph1 Hpl1]; · iframe
  ihave Hp := (pp_join c fullShare (PC m c 2) (PC m c 3)) $$ [Hq0 Hq1]; · iframe
  ihave Hdv := (dv_join c fullShare (dvC m c 2) (dvC m c 3)) $$ [Hv0 Hv1]; · iframe
  iapply Hk
  unfold done9
  isplitl [HO]; · iexact HO
  isplitl [I0 Dbar Dx Dy0 Dy1 Dz0r Dz0s Dzr1 Dzr2 Dzr3 Dzs1 Dzs Dxf Dyf Dpx Dpy Dst D90 D91]; · iframe
  isplitl [Hx]; · iexact Hx
  isplitl [Hd]; · iexact Hd
  isplitl [Ho]; · iexact Ho
  isplitl [Hxv]; · iexists _; iexact Hxv
  isplitl [Hdv]; · iexact Hdv
  isplitl [Hp]; · iexact Hp
  isplitl [Hz]; · iexists _; iexact Hz
  isplitl [Hs]; · iexists _; iexact Hs
  isplitl [Hfx]; · iexists _; iexact Hfx
  iexists _; iexact Hfy
end Cert.KernelIdeal.Own

end
-- ==== Proof.Launch.lean ====
/-
The launch: the protocol's state made and dealt out, the body run on every device, and the final state read off.
-/
module

public import proofs.«01_k».proof.Proof.Main
public import proofs.«01_k».proof.Proof.Gen.KernelIdeal.Launch
public import Idealize.ShloMosaic.Lib.Pipeline.CollectiveSegs

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the rights, listed -/

/-- A device's semaphores. -/
def cellL : List (SemLoc sig) :=
  [sBar, sX, sDy 0, sDy 1, sZs 0, sZs 1, sZs 2, sZs 3, sZr 0, sZr 1, sZr 2, sZr 3, sZ0s 0,
   sZ0s 1, sZ0s 2, sZ0s 3, sZ0r 0, sZ0r 1, sZ0r 2, sZ0r 3, sPx 0, sPx 1, sPx 2, sPx 3, sPy 0,
   sPy 1, sPy 2, sPy 3, sFx 0, sFx 1, sFy 0, sFy 1, sXo 0, sXo 1, sXf 0, sXf 1, sXd 0,
   sXd 1, sYo 0, sYo 1, sYf 0, sYf 1, sYd 0, sYd 1, sSt 0, sSt 1, sSt 2, sSt 3, sFc 0,
   sFc 1, sFc 2, sFc 3]

/-- Each with its last round. -/
def lastL : List (SemLoc sig × ℕ) :=
  [(sBar, 1), (sX, 1), (sDy 0, 2), (sDy 1, 2), (sZs 0, 0), (sZs 1, 1), (sZs 2, 1), (sZs 3, 1), (sZr 0, 0), (sZr 1, 1), (sZr 2, 1),
   (sZr 3, 1), (sZ0s 0, 1), (sZ0s 1, 1), (sZ0s 2, 1), (sZ0s 3, 1), (sZ0r 0, 1), (sZ0r 1, 1), (sZ0r 2, 1), (sZ0r 3, 1), (sPx 0, 1),
   (sPx 1, 1), (sPx 2, 1), (sPx 3, 1), (sPy 0, 1), (sPy 1, 1), (sPy 2, 1), (sPy 3, 1), (sFx 0, 1), (sFx 1, 1), (sFy 0, 1),
   (sFy 1, 1), (sXo 0, 1), (sXo 1, 1), (sXf 0, 1), (sXf 1, 1), (sXd 0, 1), (sXd 1, 1), (sYo 0, 1), (sYo 1, 1), (sYf 0, 1),
   (sYf 1, 1), (sYd 0, 1), (sYd 1, 1), (sSt 0, 1), (sSt 1, 1), (sSt 2, 1), (sSt 3, 1), (sFc 0, 1), (sFc 1, 1), (sFc 2, 1),
   (sFc 3, 1)]

/-- The list is of all semaphores. -/
theorem cellL_univ : (Finset.univ : Finset (SemLoc sig)) = cellL.toFinset := by decide +kernel
/-- It has none twice. -/
theorem cellL_nodup : cellL.Nodup := by decide +kernel

/-- The rights a device's semaphores come with: whose they become (its own, or its neighbour's in a direction), the semaphore, the round, which. -/
def tokL : List (Option (Fin 3) × SemLoc sig × ℕ × Fin 3) :=
  [(none, sX, 0, 0), (none, sDy 0, 0, 0), (none, sDy 1, 0, 0), (none, sZs 0, 0, 0), (none, sZs 1, 0, 0), (none, sZs 2, 0, 0),
   (none, sZs 3, 0, 0), (some 0, sZr 0, 0, 0), (some 0, sZr 1, 0, 0), (some 0, sZr 2, 0, 0), (some 0, sZr 3, 0, 0), (none, sZ0s 0, 0, 0),
   (none, sZ0s 1, 0, 0), (none, sZ0s 2, 0, 0), (none, sZ0s 3, 0, 0), (some 0, sZ0r 0, 0, 0), (some 0, sZ0r 1, 0, 0), (some 0, sZ0r 2, 0, 0),
   (some 0, sZ0r 3, 0, 0), (none, sPx 0, 0, 0), (none, sPx 1, 0, 0), (none, sPx 2, 0, 0), (none, sPx 3, 0, 0), (none, sPy 0, 0, 0),
   (none, sPy 1, 0, 0), (none, sPy 2, 0, 0), (none, sPy 3, 0, 0), (none, sFx 0, 0, 0), (none, sFx 1, 0, 0), (none, sFy 0, 0, 0),
   (none, sFy 1, 0, 0), (some 1, sXo 0, 0, 0), (some 1, sXo 1, 0, 0), (some 1, sXf 0, 0, 0), (some 1, sXf 1, 0, 0), (some 1, sXd 0, 0, 0),
   (some 1, sXd 1, 0, 0), (some 2, sYo 0, 0, 0), (some 2, sYo 1, 0, 0), (some 2, sYf 0, 0, 0), (some 2, sYf 1, 0, 0), (some 2, sYd 0, 0, 0),
   (some 2, sYd 1, 0, 0), (none, sSt 0, 0, 0), (none, sSt 1, 0, 0), (none, sSt 2, 0, 0), (none, sSt 3, 0, 0), (none, sFc 0, 0, 0),
   (none, sFc 1, 0, 0), (none, sFc 2, 0, 0), (none, sFc 3, 0, 0), (none, sDy 0, 1, 0), (none, sDy 1, 1, 0), (some 0, sBar, 0, 0),
   (some 1, sBar, 0, 1), (some 2, sBar, 0, 2)]
/-- How many rights there are. -/
theorem tokL_length : tokL.length = 56 := rfl
/-- Right number `j`. -/
def tokAt (j : Fin 56) : Option (Fin 3) × SemLoc sig × ℕ × Fin 3 := tokL.get (j.cast tokL_length.symm)
/-- No right is listed twice. -/
theorem tokAt_inj : Function.Injective fun j => (tokAt j).2 := by decide +kernel

/-- Something of every semaphore is something of each on the list. -/
theorem cells_eq (Φ : SemLoc sig → sProp 𝕄) : bigSep Finset.univ Φ = bigSepL cellL Φ := bigSep_univ_eq_bigSepL cellL cellL_univ cellL_nodup Φ
/-- The rights' numbers. -/
def allJ : List (Fin 56) := [0, 1, 2, 3, 4, 5, 6, 7, 8, 9, 10, 11, 12, 13, 14, 15, 16, 17, 18, 19, 20, 21, 22, 23, 24, 25, 26, 27,
   28, 29, 30, 31, 32, 33, 34, 35, 36, 37, 38, 39, 40, 41, 42, 43, 44, 45, 46, 47, 48, 49, 50, 51, 52, 53, 54, 55]
/-- They are all numbers. -/
theorem allJ_univ : (Finset.univ : Finset (Fin 56)) = allJ.toFinset := by decide
/-- None is listed twice. -/
theorem allJ_nodup : allJ.Nodup := by decide

/-! ## What a device starts from -/

/-- Whom a right of device `c`'s goes to. -/
def toD (o : Option (Fin 3)) (c : Dev nD) : Dev nD := match o with | none => c | some d => nb d c
/-- Handing a right on and back. -/
theorem toD_toD (o : Option (Fin 3)) (c : Dev nD) : toD o (toD o c) = c := by revert o c; decide
/-- Right `j` of the semaphore's owner `c`. -/
def tkn (c : Dev nD) (j : Fin 56) : sProp 𝕄 := dutyTok ER ((c : Thread nD τ), (tokAt j).2.1) (tokAt j).2.2.1 (tokAt j).2.2.2
/-- The rights dealt to device `c`. -/
def payToks (c : Dev nD) : sProp 𝕄 := bigSep Finset.univ fun j : Fin 56 => tkn (toD (tokAt j).1 c) j
/-- The credit device `c` starts with, for a list of payments every device owes. -/
def credL (c : Dev nD) : List (Fin 3 × SemLoc sig × ℕ) → sProp 𝕄
  | [] => iprop(emp)
  | p :: l => iprop(credL c l ∗ cred (tallyAt ((c : Thread nD τ), p.2.1) () p.2.2))

/-- The launch's credit, payment by payment. -/
theorem creds (c : Dev nD) (l : List (Fin 3 × SemLoc sig × ℕ)) : (Pipeline.launchCred (fun d => tl d l) c : sProp 𝕄) ⊢ credL c l := by
  induction l with
  | nil => unfold credL; exact Entails.of_eq (Pipeline.launchCred_zero c)
  | cons p l ih =>
    unfold credL
    refine (Entails.of_eq (Pipeline.launchCred_add (fun d => tl d l) (fun d => payOf d p) c)).trans ((sep_mono_left ih).trans (sep_mono_right ?_))
    exact Pipeline.launchCred_tallyAt p.2.1 (nb p.1) (nb p.1) (nb_nb p.1) (nb_nb p.1) () p.2.2 c

/-- The positions become the starts of the rounds. -/
theorem starts (K : Dev nD × SemLoc sig → ℕ) (c : Dev nD) :
    iprop(env m K ∗ bigSep Finset.univ fun sm : SemLoc sig => atPos ER ((c : Thread nD τ), sm) 0 ∅ 0) ⊢ (bigSepL cellL fun sm => done c sm 0 : sProp 𝕄) := by
  rw [← cells_eq]
  refine (sep_mono_left (BI.bigSep_of_persistent (Finset.univ : Finset (SemLoc sig)) (env m K))).trans ?_
  rw [← bigSep_sep']
  refine bigSep_mono fun sm _ => ?_
  unfold done
  show iprop(env m K ∗ atPos ER ((c : Thread nD τ), sm) 0 ∅ 0) ⊢ (iprop(atPos ER ((c : Thread nD τ), sm) 0 ∅ 0 ∗ reached ER ((c : Thread nD τ), sm) 0) : sProp 𝕄)
  iintro ⟨HE, Ha⟩
  isplitl [Ha]; · iexact Ha
  iapply (env_reached m K c sm); iexact HE

/-- Three signals' credits together. -/
theorem bar_creds (c : Dev nD) : iprop(cred (tallyAt ((c : Thread nD τ), sBar) () 1) ∗ cred (tallyAt ((c : Thread nD τ), sBar) () 1) ∗ cred (tallyAt ((c : Thread nD τ), sBar) () 1))
    ⊢ (cred (tallyAt ((c : Thread nD τ), sBar) () 3) : sProp 𝕄) := by
  rw [show (tallyAt ((c : Thread nD τ), sBar) () 3 : CellTallies nD τ sig Unit) = tallyAt ((c : Thread nD τ), sBar) () 1 + (tallyAt ((c : Thread nD τ), sBar) () 1 + tallyAt ((c : Thread nD τ), sBar) () 1) from by
    rw [tallyAt_add, tallyAt_add]]
  exact (sep_mono_right (cred_add _ _).2).trans (cred_add _ _).2

/-- The rights dealt to a device, one by one. -/
theorem payToks_eq (c : Dev nD) : (payToks c : sProp 𝕄) = iprop(dutyTok ER ((c : Thread nD τ), sX) 0 0 ∗ dutyTok ER ((c : Thread nD τ), (sDy 0)) 0 0 ∗ dutyTok ER ((c : Thread nD τ), (sDy 1)) 0 0 ∗ dutyTok ER ((c : Thread nD τ), (sZs 0)) 0 0 ∗ dutyTok ER ((c : Thread nD τ), (sZs 1)) 0 0 ∗ dutyTok ER ((c : Thread nD τ), (sZs 2)) 0 0 ∗ dutyTok ER ((c : Thread nD τ), (sZs 3)) 0 0 ∗ tok (zN c) (sZr 0) ∗ tok (zN c) (sZr 1) ∗ tok (zN c) (sZr 2) ∗ tok (zN c) (sZr 3) ∗ dutyTok ER ((c : Thread nD τ), (sZ0s 0)) 0 0 ∗ dutyTok ER ((c : Thread nD τ), (sZ0s 1)) 0 0 ∗ dutyTok ER ((c : Thread nD τ), (sZ0s 2)) 0 0 ∗ dutyTok ER ((c : Thread nD τ), (sZ0s 3)) 0 0 ∗ tok (zN c) (sZ0r 0) ∗ tok (zN c) (sZ0r 1) ∗ tok (zN c) (sZ0r 2) ∗ tok (zN c) (sZ0r 3) ∗ dutyTok ER ((c : Thread nD τ), (sPx 0)) 0 0 ∗ dutyTok ER ((c : Thread nD τ), (sPx 1)) 0 0 ∗ dutyTok ER ((c : Thread nD τ), (sPx 2)) 0 0 ∗ dutyTok ER ((c : Thread nD τ), (sPx 3)) 0 0 ∗ dutyTok ER ((c : Thread nD τ), (sPy 0)) 0 0 ∗ dutyTok ER ((c : Thread nD τ), (sPy 1)) 0 0 ∗ dutyTok ER ((c : Thread nD τ), (sPy 2)) 0 0 ∗ dutyTok ER ((c : Thread nD τ), (sPy 3)) 0 0 ∗ dutyTok ER ((c : Thread nD τ), (sFx 0)) 0 0 ∗ dutyTok ER ((c : Thread nD τ), (sFx 1)) 0 0 ∗ dutyTok ER ((c : Thread nD τ), (sFy 0)) 0 0 ∗ dutyTok ER ((c : Thread nD τ), (sFy 1)) 0 0 ∗ tok (xN c) (sXo 0) ∗ tok (xN c) (sXo 1) ∗ tok (xN c) (sXf 0) ∗ tok (xN c) (sXf 1) ∗ tok (xN c) (sXd 0) ∗ tok (xN c) (sXd 1) ∗ tok (yN c) (sYo 0) ∗ tok (yN c) (sYo 1) ∗ tok (yN c) (sYf 0) ∗ tok (yN c) (sYf 1) ∗ tok (yN c) (sYd 0) ∗ tok (yN c) (sYd 1) ∗ dutyTok ER ((c : Thread nD τ), (sSt 0)) 0 0 ∗ dutyTok ER ((c : Thread nD τ), (sSt 1)) 0 0 ∗ dutyTok ER ((c : Thread nD τ), (sSt 2)) 0 0 ∗ dutyTok ER ((c : Thread nD τ), (sSt 3)) 0 0 ∗ dutyTok ER ((c : Thread nD τ), (sFc 0)) 0 0 ∗ dutyTok ER ((c : Thread nD τ), (sFc 1)) 0 0 ∗ dutyTok ER ((c : Thread nD τ), (sFc 2)) 0 0 ∗ dutyTok ER ((c : Thread nD τ), (sFc 3)) 0 0 ∗ tk1 c (sDy 0) ∗ tk1 c (sDy 1) ∗ btok c 0 ∗ btok c 1 ∗ btok c 2) := by
  unfold payToks; rw [bigSep_univ_eq_bigSepL allJ allJ_univ allJ_nodup]; rfl

/-- The starts of the rounds, one by one. -/
theorem cellL_eq (c : Dev nD) : (bigSepL cellL fun sm => done c sm 0 : sProp 𝕄) = iprop(done c sBar 0 ∗ done c sX 0 ∗ done c (sDy 0) 0 ∗ done c (sDy 1) 0 ∗ done c (sZs 0) 0 ∗ done c (sZs 1) 0 ∗ done c (sZs 2) 0 ∗ done c (sZs 3) 0 ∗ done c (sZr 0) 0 ∗ done c (sZr 1) 0 ∗ done c (sZr 2) 0 ∗ done c (sZr 3) 0 ∗ done c (sZ0s 0) 0 ∗ done c (sZ0s 1) 0 ∗ done c (sZ0s 2) 0 ∗ done c (sZ0s 3) 0 ∗ done c (sZ0r 0) 0 ∗ done c (sZ0r 1) 0 ∗ done c (sZ0r 2) 0 ∗ done c (sZ0r 3) 0 ∗ done c (sPx 0) 0 ∗ done c (sPx 1) 0 ∗ done c (sPx 2) 0 ∗ done c (sPx 3) 0 ∗ done c (sPy 0) 0 ∗ done c (sPy 1) 0 ∗ done c (sPy 2) 0 ∗ done c (sPy 3) 0 ∗ done c (sFx 0) 0 ∗ done c (sFx 1) 0 ∗ done c (sFy 0) 0 ∗ done c (sFy 1) 0 ∗ done c (sXo 0) 0 ∗ done c (sXo 1) 0 ∗ done c (sXf 0) 0 ∗ done c (sXf 1) 0 ∗ done c (sXd 0) 0 ∗ done c (sXd 1) 0 ∗ done c (sYo 0) 0 ∗ done c (sYo 1) 0 ∗ done c (sYf 0) 0 ∗ done c (sYf 1) 0 ∗ done c (sYd 0) 0 ∗ done c (sYd 1) 0 ∗ done c (sSt 0) 0 ∗ done c (sSt 1) 0 ∗ done c (sSt 2) 0 ∗ done c (sSt 3) 0 ∗ done c (sFc 0) 0 ∗ done c (sFc 1) 0 ∗ done c (sFc 2) 0 ∗ done c (sFc 3) 0) := rfl
/-- The credits, one by one. -/
theorem credL_eq (c : Dev nD) : (credL c owed : sProp 𝕄) = iprop((((((((((((((((((((((emp ∗ cred (tallyAt ((c : Thread nD τ), .dma (sem2 cc0_scratch18 1)) () NB)) ∗ cred (tallyAt ((c : Thread nD τ), .dma (sem2 cc0_scratch21 1)) () NB)) ∗ cred (tallyAt ((c : Thread nD τ), .dma (sem2 cc0_scratch18 0)) () NB)) ∗ cred (tallyAt ((c : Thread nD τ), .dma (sem2 cc0_scratch21 0)) () NB)) ∗ cred (tallyAt ((c : Thread nD τ), .dma (sem2 cc0_scratch19 1)) () NB)) ∗ cred (tallyAt ((c : Thread nD τ), .dma (sem2 cc0_scratch17 1)) () NB)) ∗ cred (tallyAt ((c : Thread nD τ), .dma (sem2 cc0_scratch19 0)) () NB)) ∗ cred (tallyAt ((c : Thread nD τ), .dma (sem2 cc0_scratch17 0)) () NB)) ∗ cred (tallyAt ((c : Thread nD τ), .dma (sem4 cc0_scratch9 3)) () NB)) ∗ cred (tallyAt ((c : Thread nD τ), .dma (sem2 cc0_scratch20 1)) () NB)) ∗ cred (tallyAt ((c : Thread nD τ), .dma (sem2 cc0_scratch16 1)) () NB)) ∗ cred (tallyAt ((c : Thread nD τ), .dma (sem4 cc0_scratch9 2)) () NB)) ∗ cred (tallyAt ((c : Thread nD τ), .dma (sem2 cc0_scratch20 0)) () NB)) ∗ cred (tallyAt ((c : Thread nD τ), .dma (sem2 cc0_scratch16 0)) () NB)) ∗ cred (tallyAt ((c : Thread nD τ), .dma (sem4 cc0_scratch9 1)) () NB)) ∗ cred (tallyAt ((c : Thread nD τ), .dma (sem4 cc0_scratch11 3)) () NK)) ∗ cred (tallyAt ((c : Thread nD τ), .dma (sem4 cc0_scratch11 2)) () NK)) ∗ cred (tallyAt ((c : Thread nD τ), .dma (sem4 cc0_scratch11 1)) () NK)) ∗ cred (tallyAt ((c : Thread nD τ), .dma (sem4 cc0_scratch11 0)) () NK)) ∗ cred (tallyAt ((c : Thread nD τ), .reg barS) () 1)) ∗ cred (tallyAt ((c : Thread nD τ), .reg barS) () 1)) ∗ cred (tallyAt ((c : Thread nD τ), .reg barS) () 1)) := rfl

set_option maxHeartbeats 4000000 in
/-- The positions, the rights and the credit are what the body starts from. -/
theorem ini_intro (K : Dev nD × SemLoc sig → ℕ) (c : Dev nD) :
    iprop(env m K ∗ (bigSep Finset.univ fun sm : SemLoc sig => atPos ER ((c : Thread nD τ), sm) 0 ∅ 0) ∗ payToks c ∗ credL c owed) ⊢ (ini c : sProp 𝕄) := by
  iintro ⟨#HE, HA, HT, HC⟩
  ihave HD := (starts m K c) $$ [HA]; · iframe HE; iframe
  ihave HD := (Entails.of_eq (cellL_eq c)) $$ HD
  ihave HT := (Entails.of_eq (payToks_eq c)) $$ HT
  ihave HC := (Entails.of_eq (credL_eq c)) $$ HC
  icases HD with ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45, D46, D47, D48, D49, D50, D51⟩
  icases HT with ⟨T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55⟩
  icases HC with ⟨⟨⟨⟨⟨⟨⟨⟨⟨⟨⟨⟨⟨⟨⟨⟨⟨⟨⟨⟨⟨⟨-, C21⟩, C20⟩, C19⟩, C18⟩, C17⟩, C16⟩, C15⟩, C14⟩, C13⟩, C12⟩, C11⟩, C10⟩, C9⟩, C8⟩, C7⟩, C6⟩, C5⟩, C4⟩, C3⟩, C2⟩, C1⟩, C0⟩
  ihave CB := (bar_creds c) $$ [C0 C1 C2]; · iframe
  unfold ini in0 in1 in2 in3 in4 in5 in6 in7 in9 rdy pend
  iframe

/-! ## Closing the rounds -/

/-- After the last round on the list a semaphore has no round. -/
theorem last_ok : ∀ p ∈ lastL, (match p.1 with | .reg _ => 1 | .dma b => rounds (dec b)) ≤ p.2 := by decide +kernel
/-- After that round nobody pays. -/
theorem duties_last (c : Dev nD) (p : SemLoc sig × ℕ) (hp : p ∈ lastL) (r : ℕ) (hr : p.2 ≤ r) : (Rd m).duties ((c : Thread nD τ), p.1) r = ∅ := by
  have h := (last_ok p hp).trans hr
  obtain ⟨s | b, R⟩ := p
  · exact duties_bar_none m c r h
  · exact duties_dma_none m c b r h
/-- Closing the semaphores of a list leaves their counters at zero. -/
theorem close_list (K : Dev nD × SemLoc sig → ℕ) (c : Dev nD) (l : List (SemLoc sig × ℕ)) (hl : ∀ p ∈ l, p ∈ lastL) :
    iprop(env m K ∗ bigSepL l fun p => done c p.1 p.2) ⊢ (|={Set.univ}=> bigSepL l fun p => semVal ((c : Thread nD τ), p.1) 0 : sProp 𝕄) := by
  induction l with
  | nil => iintro ⟨-, H⟩; imodintro; iexact H
  | cons p l ih =>
    rw [bigSepL_cons, bigSepL_cons]
    show iprop(env m K ∗ done c p.1 p.2 ∗ bigSepL l fun p => done c p.1 p.2) ⊢ (|={Set.univ}=> iprop(semVal ((c : Thread nD τ), p.1) 0 ∗ bigSepL l fun p => semVal ((c : Thread nD τ), p.1) 0) : sProp 𝕄)
    iintro ⟨#HE, H, Hl⟩
    imod (ih fun p' hp' => hl p' (List.mem_cons_of_mem _ hp')) $$ [Hl] with Hl
    · iframe HE; iframe
    unfold done
    icases H with ⟨Ha, -⟩
    imod (Rounds.cell_close ER (Rd m) (Set.mem_univ (K (c, p.1))) (fun h => h) (R := p.2) (duties_last m c p (hl p List.mem_cons_self))) $$ [Ha] with Hz
    · isplitr; · iapply (env_inv m K c p.1); iexact HE
      iexact Ha
    imodintro
    isplitl [Hz] <;> iassumption

/-- The final positions, one by one. -/
theorem lastL_eq (c : Dev nD) : (bigSepL lastL fun p => done c p.1 p.2 : sProp 𝕄) = iprop(done c sBar 1 ∗ done c sX 1 ∗ done c (sDy 0) 2 ∗ done c (sDy 1) 2 ∗ done c (sZs 0) 0 ∗ done c (sZs 1) 1 ∗ done c (sZs 2) 1 ∗ done c (sZs 3) 1 ∗ done c (sZr 0) 0 ∗ done c (sZr 1) 1 ∗ done c (sZr 2) 1 ∗ done c (sZr 3) 1 ∗ done c (sZ0s 0) 1 ∗ done c (sZ0s 1) 1 ∗ done c (sZ0s 2) 1 ∗ done c (sZ0s 3) 1 ∗ done c (sZ0r 0) 1 ∗ done c (sZ0r 1) 1 ∗ done c (sZ0r 2) 1 ∗ done c (sZ0r 3) 1 ∗ done c (sPx 0) 1 ∗ done c (sPx 1) 1 ∗ done c (sPx 2) 1 ∗ done c (sPx 3) 1 ∗ done c (sPy 0) 1 ∗ done c (sPy 1) 1 ∗ done c (sPy 2) 1 ∗ done c (sPy 3) 1 ∗ done c (sFx 0) 1 ∗ done c (sFx 1) 1 ∗ done c (sFy 0) 1 ∗ done c (sFy 1) 1 ∗ done c (sXo 0) 1 ∗ done c (sXo 1) 1 ∗ done c (sXf 0) 1 ∗ done c (sXf 1) 1 ∗ done c (sXd 0) 1 ∗ done c (sXd 1) 1 ∗ done c (sYo 0) 1 ∗ done c (sYo 1) 1 ∗ done c (sYf 0) 1 ∗ done c (sYf 1) 1 ∗ done c (sYd 0) 1 ∗ done c (sYd 1) 1 ∗ done c (sSt 0) 1 ∗ done c (sSt 1) 1 ∗ done c (sSt 2) 1 ∗ done c (sSt 3) 1 ∗ done c (sFc 0) 1 ∗ done c (sFc 1) 1 ∗ done c (sFc 2) 1 ∗ done c (sFc 3) 1) := rfl
set_option maxHeartbeats 4000000 in
/-- The body leaves every semaphore after its last round. -/
theorem done9_list (c : Dev nD) : (done9 c : sProp 𝕄) ⊢ bigSepL lastL fun p => done c p.1 p.2 := by
  rw [lastL_eq]
  unfold done9 in0
  iintro ⟨⟨h0, h1⟩, h2, h3, h4, h5, ⟨h6, h7, h8, h9⟩, ⟨h10, h11, h12, h13⟩, h14, h15, h16, h17, ⟨h18, h19⟩, ⟨h20, h21⟩, ⟨h22, h23⟩, ⟨h24, h25, h26, h27⟩, ⟨h28, h29, h30, h31⟩, ⟨h32, h33, h34, h35⟩, ⟨h36, h37, h38, h39, h40, h41, h42, h43⟩, ⟨h44, h45, h46, h47, h48, h49, h50, h51⟩⟩
  iframe

/-! ## The buffers and the semaphores at launch -/

/-- The kernel's own semaphores. -/
abbrev osem : Fin 51 → SemLoc sig := fun k => .dma k
/-- They are the scoped ones, each once. -/
theorem ownSemFacts : Pipeline.OwnSemFacts cfg0.spec osem := by decide +kernel
/-- The DMA semaphores in the same order. -/
def dmaL : List (Fin 51) :=
  [cc0_scratch24.sem, sem2 cc0_scratch7 0, sem2 cc0_scratch7 1, sem4 cc0_scratch8 0, sem4 cc0_scratch8 1, sem4 cc0_scratch8 2, sem4 cc0_scratch8 3, sem4 cc0_scratch9 0, sem4 cc0_scratch9 1, sem4 cc0_scratch9 2, sem4 cc0_scratch9 3, sem4 cc0_scratch10 0,
   sem4 cc0_scratch10 1, sem4 cc0_scratch10 2, sem4 cc0_scratch10 3, sem4 cc0_scratch11 0, sem4 cc0_scratch11 1, sem4 cc0_scratch11 2, sem4 cc0_scratch11 3, sem4 cc0_scratch12 0, sem4 cc0_scratch12 1, sem4 cc0_scratch12 2, sem4 cc0_scratch12 3, sem4 cc0_scratch13 0,
   sem4 cc0_scratch13 1, sem4 cc0_scratch13 2, sem4 cc0_scratch13 3, sem2 cc0_scratch14 0, sem2 cc0_scratch14 1, sem2 cc0_scratch15 0, sem2 cc0_scratch15 1, sem2 cc0_scratch16 0, sem2 cc0_scratch16 1, sem2 cc0_scratch17 0, sem2 cc0_scratch17 1, sem2 cc0_scratch18 0,
   sem2 cc0_scratch18 1, sem2 cc0_scratch19 0, sem2 cc0_scratch19 1, sem2 cc0_scratch20 0, sem2 cc0_scratch20 1, sem2 cc0_scratch21 0, sem2 cc0_scratch21 1, sem4 cc0_scratch22 0, sem4 cc0_scratch22 1, sem4 cc0_scratch22 2, sem4 cc0_scratch22 3, sem4 cc0_scratch23 0,
   sem4 cc0_scratch23 1, sem4 cc0_scratch23 2, sem4 cc0_scratch23 3]
/-- The list is of all of them. -/
theorem dmaL_univ : (Finset.univ : Finset (Fin 51)) = dmaL.toFinset := by decide +kernel
/-- It has none twice. -/
theorem dmaL_nodup : dmaL.Nodup := by decide +kernel

/-- Their counters at zero. -/
abbrev ownS (c : Dev nD) : sProp 𝕄 := Pipeline.ownSems0 (Ix := Unit) (Name := ℕ) (U := UU) (Lvl := ℕ) (Val := Elt F) (τ := τ) osem c

/-- Their counters, in the list's order. -/
theorem ownS_eq (c : Dev nD) : (ownS c : sProp 𝕄) = bigSepL dmaL fun k => semVal ((c : Thread nD τ), osem k) 0 :=
  Pipeline.ownSems0_eq_of_list c osem dmaL dmaL_univ dmaL_nodup
/-- The one unscoped semaphore is the barrier's. -/
theorem unscopedS_eq (c : Dev nD) : (unscopedSems0 c : sProp 𝕄) = semVal ((c : Thread nD τ), sBar) 0 := by
  unfold unscopedSems0; rw [bigSep_eq_bigSepL_of_eq [SemLoc.reg barS] (by decide +kernel) (by decide +kernel)]; rfl
/-- The semaphores' counters, the barrier's first. -/
theorem sems_eq (c : Dev nD) : iprop(unscopedSems0 c ∗ ownS c) = (bigSepL cellL fun sm => semVal ((c : Thread nD τ), sm) 0 : sProp 𝕄) := by
  rw [ownS_eq, unscopedS_eq]; rfl
/-- All counters, in the order of the final positions. -/
theorem sems_last (c : Dev nD) : iprop(unscopedSems0 c ∗ ownS c) = (bigSepL lastL fun p => semVal ((c : Thread nD τ), p.1) 0 : sProp 𝕄) := by
  rw [ownS_eq, unscopedS_eq]; rfl

/-- A device's buffers in the kernel's own memory, at whatever contents. -/
abbrev scr (c : Dev nD) : sProp 𝕄 := iprop((∃ f, Pxv c Finset.univ fullShare f) ∗ (∃ f, Pdv c Finset.univ fullShare f) ∗ (∃ f, Pp c Finset.univ fullShare f)
  ∗ (∃ f, Pz c Finset.univ fullShare f) ∗ (∃ f, Ps c Finset.univ fullShare f) ∗ (∃ f, Pfx c Finset.univ fullShare f) ∗ (∃ f, Pfy c Finset.univ fullShare f))
/-- Its rows of `x` and `dy` as given, and its result's memory at `o`. -/
abbrev arrs (c : Dev nD) (o : S1024x8192.Idx → Elt F .f32) : sProp 𝕄 :=
  iprop(Px c Finset.univ fullShare (xC m c) ∗ Pd c Finset.univ fullShare (dyAt m c) ∗ Po c Finset.univ fullShare o)

/-- What a device is dealt of the protocol. -/
def G' (c : Dev nD) : sProp 𝕄 := iprop(∃ K, records m K ∗ (bigSep Finset.univ fun sm : SemLoc sig => atPos ER ((c : Thread nD τ), sm) 0 ∅ 0) ∗ payToks c)
/-- What each device owes at launch. -/
def O₀ (c : Dev nD) : CellTallies nD τ sig Unit := tl c owed
/-- The credit of what a device owes at launch. -/
theorem creds₀ (c : Dev nD) : (Pipeline.launchCred O₀ c : sProp 𝕄) ⊢ credL c owed := creds c owed
/-- What the region starts from on a device. -/
def start (c : Dev nD) : sProp 𝕄 := iprop(G' m c ∗ levAts L lv ∗ Pipeline.launchCred O₀ c ∗ arrs m c (outI m c))
/-- What the body starts from. -/
def Φ₀ (c : Dev nD) : sProp 𝕄 := iprop(start m c ∗ scr c)
/-- What the region leaves: the arguments, the result and the barrier's counter. -/
def YY (c : Dev nD) : sProp 𝕄 := iprop(arrs m c (outC m c) ∗ unscopedSems0 c)
/-- What the body leaves. -/
def Φ₁ (c : Dev nD) : sProp 𝕄 := iprop(YY m c ∗ ownS c ∗ scr c)

/-- The region's data: no windows, the state before and after its one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- There are no windows. -/
theorem bigSep_W (Φ : Fin cfg0.W → sProp 𝕄) : bigSep Finset.univ Φ = iprop(emp) := by
  show bigSep (Finset.univ : Finset (Fin 0)) Φ = _
  rw [Finset.univ_eq_empty]; rfl

/-! ## The body's obligation -/

/-- The body's precondition. -/
def bodyPre (c : Dev nD) : sProp 𝕄 := iprop(Φ₀ m c ∗ (dats m 0 c).owesAt () t0_0.castSucc ∗ emp)
/-- The body's postcondition. -/
def bodyPost (c : Dev nD) : sProp 𝕄 := iprop(Φ₁ m c ∗ (dats m 0 c).owesAt () t0_0.succ ∗ emp)

/-- What all devices know, from its two parts. -/
theorem env_intro (K : Dev nD × SemLoc sig → ℕ) : iprop(records m K ∗ levAts L lv) ⊢ (env m K : sProp 𝕄) := by unfold env; exact BI.Entails.refl _

/-- An update after the run may be made part of it. -/
theorem WP_fupd (c : Dev nD) (p : TP F PUnit) (Q : PUnit → sProp 𝕄) : WP c p (fun a => iprop(|={Set.univ}=> Q a)) ⊢ WP c p Q := wp_fupd _ _ _ _ _

set_option maxRecDepth 100000 in
/-- The flat program takes the precondition to the postcondition. -/
theorem body_run (c : Dev nD) : bodyPre m c ⊢ WP c (prog c) (fun _ => bodyPost m c) := by
  suffices h : bodyPre m c ⊢ WP c (prog c) (fun _ => iprop(|={Set.univ}=> bodyPost m c)) from h.trans (WP_fupd c (prog c) (fun _ => bodyPost m c))
  unfold bodyPre Φ₀ start G' Dat.owesAt Pipeline.owesWithin
  iintro ⟨⟨⟨⟨%K, #HR, HA, HT⟩, #HL, HC, Hx, Hd, Ho⟩, ⟨%f0, H0⟩, ⟨%f1, H1⟩, ⟨%f2, H2⟩, ⟨%f3, H3⟩, ⟨%f4, H4⟩, ⟨%f5, H5⟩, ⟨%f6, H6⟩⟩, ⟨%W, %hW, HO⟩, -⟩
  ihave HC' := (creds₀ c) $$ HC
  ihave #HE := (env_intro m K) $$ []
  · isplitr
    · iexact HR
    · iexact HL
  ihave HI := (ini_intro m K c) $$ [HA HT HC']
  · iframe HE; iframe
  iapply (prog_spec m K c f0 f1 f2 f3 f4 f5 f6 (fun _ => iprop(|={Set.univ}=> bodyPost m c))) $$ [HI Hx Hd Ho H0 H1 H2 H3 H4 H5 H6 HO]
  · iframe HE
    isplitl [HO]
    · unfold ow; iexists W; iexact HO
    iframe
  iintro ⟨HO, HD, Hx, Hd, Ho, HS⟩
  ihave HD' := (done9_list c) $$ HD
  imod (close_list m K c lastL fun _ h => h) $$ [HD'] with HZ
  · iframe HE; iexact HD'
  ihave HZ' := (Entails.of_eq (sems_last c).symm) $$ HZ
  icases HZ' with ⟨Hu, Hs⟩
  imodintro
  unfold bodyPost Φ₁ YY Dat.owesAt Pipeline.owesWithin ow
  icases HO with ⟨%W', HO⟩
  isplitl [Hx Hd Ho Hu Hs HS]
  · isplitl [Hx Hd Ho Hu]
    · isplitl [Hx Hd Ho]
      · isplitl [Hx]; · iexact Hx
        isplitl [Hd]; · iexact Hd
        iexact Ho
      iexact Hu
    isplitl [Hs]; · iexact Hs
    iexact HS
  isplitl
  · iexists W'
    isplitr; · ipureintro; exact fun _ _ => Or.inl trivial
    iexact HO
  iempintro

/-- The printed body runs as the flat program does. -/
theorem body_wp (c : Dev nD) (Q : PUnit → sProp 𝕄) : WP c (cc0_body_skel (F := F) (Memref.whole main_arg0) (Memref.isWhole_whole _) (Memref.whole main_arg1) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9 cc0_scratch10
    cc0_scratch11 cc0_scratch12 cc0_scratch13 cc0_scratch14 cc0_scratch15 cc0_scratch16 cc0_scratch17 cc0_scratch18 cc0_scratch19 cc0_scratch20 cc0_scratch21
    cc0_scratch22 cc0_scratch23 cc0_scratch24) Q = WP c (prog c) Q := by
  rw [body_eq]
  simp only [Prog.lift, Prog.bind_op, Prog.bind_ret, wp_deviceId]

set_option maxRecDepth 100000 in
/-- The launch's condition on the body. -/
theorem body_obligation (c : Dev nD) : BodyObligation (dats (F := F) m 0 c) (defs₀ (F := F)) 𝒱₀ () Set.univ := fun t => by
  rw [fin_N0 t]
  rw [bigSep_W, bigSep_W]
  exact (body_run m c).trans (Entails.of_eq (body_wp c _).symm)

/-! ## Dealing the protocol out -/

/-- A device's semaphore as a cell. -/
def kcell (ck : Dev nD × SemLoc sig) : GSem nD τ sig := ((ck.1 : Thread nD τ), ck.2)
/-- Different ones are different cells. -/
theorem kcell_inj : Function.Injective kcell := by
  rintro ⟨c, s⟩ ⟨c', s'⟩ h
  have h1 : c = c' := congrArg (fun g : GSem nD τ sig => g.1.1) h
  have h2 : s = s' := congrArg Prod.snd h
  rw [h1, h2]
/-- All cells. -/
def kcells : Finset (GSem nD τ sig) := Finset.univ.map ⟨kcell, kcell_inj⟩
/-- A right as the protocol counts it. -/
def ktok (cj : Dev nD × Fin 56) : GSem nD τ sig × ℕ × Fin 3 := (((cj.1 : Thread nD τ), (tokAt cj.2).2.1), (tokAt cj.2).2.2)
/-- Different rights are counted apart. -/
theorem ktok_inj : Function.Injective ktok := by
  rintro ⟨c, j⟩ ⟨c', j'⟩ h
  have h1 : c = c' := congrArg (fun x : GSem nD τ sig × ℕ × Fin 3 => x.1.1.1) h
  have h2 : (tokAt j).2 = (tokAt j').2 := Prod.ext (congrArg (fun x : GSem nD τ sig × ℕ × Fin 3 => x.1.2) h) (congrArg (fun x : GSem nD τ sig × ℕ × Fin 3 => x.2) h)
  have h3 : j = j' := tokAt_inj h2
  rw [h1, h3]
/-- All rights. -/
def ktoks : Finset (GSem nD τ sig × ℕ × Fin 3) := Finset.univ.map ⟨ktok, ktok_inj⟩

/-- The state made at launch. -/
def u₀ : UU := (initOf (Pipeline.cells cfgs cellOf_inj) (Pipeline.launchToks cfgs cellOf_inj), initOf kcells ktoks)

/-- What the launch makes for device `c`. -/
def G (c : Dev nD) : sProp 𝕄 :=
  iprop((bigSep Finset.univ fun sm : SemLoc sig => roundState ER (Rd m) ((c : Thread nD τ), sm) 0)
    ∗ (bigSep Finset.univ fun sm : SemLoc sig => iprop(atPos ER ((c : Thread nD τ), sm) 0 ∅ 0 ∗ reached ER ((c : Thread nD τ), sm) 0))
    ∗ bigSep Finset.univ fun j : Fin 56 => tkn c j)

/-- The state made at launch, device by device. -/
theorem fund_all : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun sm : SemLoc sig => Φ ((c : Thread nD τ), sm) := by
    unfold kcells; rw [bigSep_map, bigSep_univ_prod]; rfl
  have hT : bigSep ktoks (fun x => (dutyTok ER x.1 x.2.1 x.2.2 : sProp 𝕄)) = bigSep Finset.univ fun c : Dev nD => bigSep Finset.univ fun j : Fin 56 => tkn c j := by
    unfold ktoks; rw [bigSep_map, bigSep_univ_prod]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- On each device the counters go into the invariants. -/
theorem core_alloc (c : Dev nD) :
    iprop(ownS c ∗ unscopedSems0 c ∗ G m c)
      ⊢ |={Set.univ}=> iprop((bigSep Finset.univ fun sm : SemLoc sig => iprop(∃ κ : ℕ, cellInv ER (Rd m) κ ((c : Thread nD τ), sm)))
          ∗ (bigSep Finset.univ fun sm : SemLoc sig => iprop(atPos ER ((c : Thread nD τ), sm) 0 ∅ 0 ∗ reached ER ((c : Thread nD τ), sm) 0)) ∗ bigSep Finset.univ fun j : Fin 56 => tkn c j) := by
  unfold G
  iintro ⟨Hos, Hus, Hst, Hat, Htok⟩
  ihave Hv := (Entails.of_eq ((sems_eq (F := F) c).trans (cells_eq _).symm)) $$ [Hos Hus]
  · isplitl [Hus] <;> iassumption
  imod (show iprop((bigSep Finset.univ fun sm : SemLoc sig => semVal ((c : Thread nD τ), sm) 0) ∗ bigSep Finset.univ fun sm : SemLoc sig => roundState ER (Rd m) ((c : Thread nD τ), sm) 0)
      ⊢ (|={Set.univ}=> bigSep Finset.univ fun sm : SemLoc sig => iprop(∃ κ : ℕ, cellInv ER (Rd m) κ ((c : Thread nD τ), sm)) : sProp 𝕄) from by
        rw [← bigSep_sep']
        exact (bigSep_mono fun sm _ => (Rounds.body_intro ER (Rd m) ((c : Thread nD τ), sm)).trans inv_alloc).trans (bigSep_fupd _ _)) $$ [Hv Hst] with Hinv
  · isplitl [Hv] <;> iassumption
  imodintro
  isplitl [Hinv]; · iexact Hinv
  isplitl [Hat]; · iexact Hat
  iexact Htok

/-- Every right to the device it is for. -/
def dealE : (Dev nD × Fin 56) ≃ (Dev nD × Fin 56) where
  toFun cj := (toD (tokAt cj.2).1 cj.1, cj.2)
  invFun cj := (toD (tokAt cj.2).1 cj.1, cj.2)
  left_inv cj := Prod.ext (toD_toD _ _) rfl
  right_inv cj := Prod.ext (toD_toD _ _) rfl
/-- Dealing every right to the device that it is for. -/
theorem toks_around : (bigSep Finset.univ fun c : Dev nD => bigSep Finset.univ fun j : Fin 56 => tkn c j : sProp 𝕄) = bigSep Finset.univ fun c : Dev nD => payToks c := by
  rw [← bigSep_univ_prod (fun cj : Dev nD × Fin 56 => (tkn cj.1 cj.2 : sProp 𝕄)), bigSep_univ_equiv dealE, bigSep_univ_prod]; rfl

/-- What all know may be used for each. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names, gathered for all devices. -/
theorem regroup :
    (bigSep Finset.univ fun c : Dev nD => iprop((bigSep Finset.univ fun sm : SemLoc sig => iprop(∃ κ : ℕ, cellInv ER (Rd m) κ ((c : Thread nD τ), sm)))
          ∗ (bigSep Finset.univ fun sm : SemLoc sig => iprop(atPos ER ((c : Thread nD τ), sm) 0 ∅ 0 ∗ reached ER ((c : Thread nD τ), sm) 0)) ∗ bigSep Finset.univ fun j : Fin 56 => tkn c j) : sProp 𝕄)
      ⊢ bigSep Finset.univ (G' m) := by
  rw [bigSep_sep', bigSep_sep', ← bigSep_univ_prod (fun ck : Dev nD × SemLoc sig => iprop(∃ κ : ℕ, cellInv ER (Rd m) κ ((ck.1 : Thread nD τ), ck.2))),
    bigSep_congr (s := Finset.univ) (fun (c : Dev nD) _ => bigSep_sep' Finset.univ (fun sm : SemLoc sig => (atPos ER ((c : Thread nD τ), sm) 0 ∅ 0 : sProp 𝕄)) (fun sm => reached ER ((c : Thread nD τ), sm) 0)),
    bigSep_sep', ← bigSep_univ_prod (fun ck : Dev nD × SemLoc sig => (reached ER ((ck.1 : Thread nD τ), ck.2) 0 : sProp 𝕄)), toks_around]
  iintro ⟨HI, ⟨Hat, HR⟩, Htok⟩
  ihave HK := (BI.bigSep_exists_pi Finset.univ (fun (ck : Dev nD × SemLoc sig) (κ : ℕ) => (cellInv ER (Rd m) κ ((ck.1 : Thread nD τ), ck.2) : sProp 𝕄))) $$ HI
  icases HK with ⟨%K, HI⟩
  ihave #HRec := (show iprop((bigSep Finset.univ fun ck : Dev nD × SemLoc sig => cellInv ER (Rd m) (K ck) ((ck.1 : Thread nD τ), ck.2))
      ∗ bigSep Finset.univ fun ck : Dev nD × SemLoc sig => reached ER ((ck.1 : Thread nD τ), ck.2) 0) ⊢ (records m K : sProp 𝕄) from by
        unfold records; rw [bigSep_sep']) $$ [HI HR]
  · isplitl [HI] <;> iassumption
  iapply (with_persistent (R := records m K) (Φ := fun c : Dev nD => iprop((bigSep Finset.univ fun sm : SemLoc sig => atPos ER ((c : Thread nD τ), sm) 0 ∅ 0) ∗ payToks c))
    fun c _ => (by unfold G'; iintro ⟨H1, H2, H3⟩; iexists K; iframe))
  isplitr; · iexact HRec
  rw [bigSep_sep']
  isplitl [Hat] <;> iassumption

/-- The launch's step over all devices. -/
theorem glob : (bigSep Finset.univ fun c => iprop(ownS c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch's conditions -/

/-- What the launch gives a device is what the region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hb, Hlev, Hcr, -, HG⟩
  ihave Hb' := (Entails.of_eq (unscopedRest0_eq (Ix := Unit) (Name := ℕ) (U := UU) (Lvl := ℕ) c fun b => m ((c : Thread nD τ).loc b))) $$ Hb
  imodintro
  unfold start
  isplitl
  · isplitl [HG]; · iexact HG
    isplitl [Hlev]; · iexact Hlev
    isplitl [Hcr]; · iexact Hcr
    iexact Hb'
  · iempintro

/-- With the scoped buffers it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the body leaves is what the region returns. -/
theorem phi1_exit (c : Dev nD) : (dats m 0 c).Φ (Fin.last cfg0.N) ⊢ iprop(YY m c ∗ Pipeline.ownSems0 osem c ∗ Pipeline.scopedRest cfg0.spec c) := by
  rw [show (dats m 0 c).Φ (Fin.last cfg0.N) = Φ₁ m c from rfl, scopedRest0_eq]
  exact BI.Entails.refl _

/-- No window's wait needs evidence. -/
theorem waits (c : Dev nD) : (levAts L lv : sProp 𝕄) ⊢ Pipeline.cellsWaits cfgs (dats m) () 0 c :=
  Pipeline.cellsWaits_intro cfgs (dats m) () 0 c fun w s t => w.elim0

/-! ## The run -/

/-- What a device's memory and counters hold in the end. -/
def QY (c : Dev nD) (s : MemSt nD τ sig (Elt F)) : Prop :=
  (s.mem ((c : Thread nD τ).loc main_arg0) = xC m c ∧ s.mem ((c : Thread nD τ).loc main_arg1) = dyAt m c ∧ s.mem ((c : Thread nD τ).loc main_v1) = outC m c)
    ∧ ∀ sm : SemLoc sig, sm.isScoped .tc = false → s.sem ((c.tc : Thread nD τ), sm) = 0

/-- What the region returns says what memory and counters hold. -/
theorem read_final (c : Dev nD) (s' : Phys nD τ sig (Elt F)) : iprop(YY m c ∗ emp ∗ SI s') ⊢ |={Set.univ}=> (iprop(⌜QY m c s'.mem⌝ ∗ SI s') : sProp 𝕄) := by
  unfold YY
  iintro ⟨⟨⟨Hx, Hd, Ho⟩, Hu⟩, -, HSI⟩
  icombine HSI Hx gives %hx
  icombine HSI Hd gives %hd
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨⟨funext fun i => hx i (Finset.mem_univ i), funext fun i => hd i (Finset.mem_univ i), funext fun i => ho i (Finset.mem_univ i)⟩, hu⟩
  · iexact HSI

set_option maxRecDepth 100000 in
/-- At the compiled mesh of eight devices, for any float values, from any memory with every counter at zero: every weakly fair execution of
    @main terminates, with each device's result the computed contents, its rows of `x` and `dy` unchanged and every semaphore's counter at zero. -/
theorem run_main : θ_run defs (onTc (τ := τ) (main (F := F))) ⟨m, fun _ => 0, ρ⟩ (fun r => (∀ c : Dev nD, QY m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := YY m) (Z := fun _ => iprop(emp))
    (hX := start_intro m ρ) (hin := phi0_intro m) (hout := phi1_exit m)
    (QY := QY m) (hY := read_final m)
    (hQ := fun _ h hs => ⟨fun c => (h c).2.2, sem_eq_zero hs fun c => (h c).2.2.2⟩)

end Cert.KernelIdeal.Own

end
-- ==== Proof.Pay.lean ====
/-
The kernel's arithmetic and the reference's, each read at an index: the products are sums over the rows, the combination
of two halves an addition, the reference one sum over all the rows.
-/
module

public import proofs.«01_k».proof.Proof.Gen.KernelIdeal
public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.KernelIdeal.Own

open Idealize.ShloMosaic Idealize.SL.Sem

section Kernel
open Cert.KernelIdeal Cert.KernelIdeal.Gen

/-- The product of 128 columns at row `i`, column `j`. -/
theorem pay1_at (x : Vec Ideal S2048x2048 .f32) (d : Vec Ideal S1x2048x128 .f32) (i : Fin 2048) (j : Fin 128) :
    k0_pay1 (F := Ideal) x d (ix3 0 i j) = ∑ k : Fin 2048, x (ix2 k i) * d (ix3 0 k j) := by
  pointwise [k0_pay1]

/-- The product of 512 columns at row `i`, column `j`. -/
theorem pay10_at (x : Vec Ideal S2048x2048 .f32) (d : Vec Ideal S1x2048x512 .f32) (i : Fin 2048) (j : Fin 512) :
    k0_pay10 (F := Ideal) x d (ix3 0 i j) = ∑ k : Fin 2048, x (ix2 k i) * d (ix3 0 k j) := by
  pointwise [k0_pay10]

/-- The two halves' sum at row `i`, column `j`. -/
theorem pay11_at (p z : Vec Ideal S1x1024x512 .f32) (i : Fin 1024) (j : Fin 512) :
    k0_pay11 (F := Ideal) p z (ix3 0 i j) = (p (ix3 0 i j) + z (ix3 0 i j) : EReal) := by
  pointwise [k0_pay11]
end Kernel

section Reference
open Cert.ReferenceIdeal Cert.ReferenceIdeal.Gen

/-- The reference at row `i`, column `j`. -/
theorem ref_at (X : (⟨2, ![4096, 2048]⟩ : Shape).Idx → EReal) (D : (⟨2, ![4096, 8192]⟩ : Shape).Idx → EReal) (i : Fin 2048) (j : Fin 8192) :
    Host.dotGeneral (F := Ideal) (φ₁ := .f32) (φ₂ := .f32) dot_S2048x4096_S4096x8192_S2048x8192_1_0_0_1_n_n none
      (transpose S2048x4096 [1, 0] X Facts₀.transposes_S4096x2048_S2048x4096_1_0) D (ix2 i j)
      = ∑ k : Fin 4096, X (ix2 k i) * D (ix2 k j) := by
  pointwise
end Reference

end Cert.KernelIdeal.Own

end
-- ==== Proof.Value.lean ====
/-
The value: with each device's buffers its blocks of whole arrays, the result of every device is its block of the product
of the first array transposed and the second.
-/
module

public import proofs.«01_k».proof.Proof.Pay
public import proofs.«01_k».proof.Proof.Common
public import Idealize.ShloMosaic.Lib.Layout

@[expose] public section

set_option backward.proofsInPublic true

noncomputable section

namespace Cert.KernelIdeal.Own

open Cert.KernelIdeal Cert.KernelIdeal.Gen
open Idealize.ShloMosaic.TcCoe Idealize.SL.Sem Idealize.ShloMosaic.ValueIdx
open Idealize.ShloMosaic hiding ix2 ix3 eq_ix2 eq_ix3

variable (m : (ℓ : Loc nD τ sig) → Buf (Elt Ideal) ℓ)

/-- A device's product at a row and a column of its group, whichever slot holds it: the sum over its rows of `x` and `dy`. -/
theorem PC_at (c : Dev nD) (b : Fin 4) (s : Fin 2) (i : Fin 2048) (j : Fin 512) :
    PC m c b (ix3 s i j) = ∑ k : Fin 2048, (xC m c (ix2 k i) * dyAt m c (ix2 k ⟨gcol c + 512 * b.val + j.val, col_lt c b j.val j.isLt⟩) : EReal) := by
  by_cases hb : b = 0
  · subst hb
    have h := pay1_at (xC m c) (dK m c ⟨j.val / 128, by omega⟩) i ⟨j.val % 128, Nat.mod_lt _ (by decide)⟩
    simp only [Idealize.ShloMosaic.ix3_eq_valueIdx, Idealize.ShloMosaic.ix2_eq_valueIdx] at h
    refine Eq.trans (if_pos rfl) (h.trans (Finset.sum_congr rfl fun k _ => ?_))
    refine congrArg (fun t : EReal => (xC m c (ix2 k i) : EReal) * t) ?_
    show dyAt m c (ix2 k ⟨gcol c + 512 * 0 + (128 * (j.val / 128) + j.val % 128), _⟩) = _
    refine congrArg (fun t => dyAt m c (ix2 k t)) (Fin.ext ?_)
    show gcol c + 512 * 0 + (128 * (j.val / 128) + j.val % 128) = gcol c + 512 * 0 + j.val
    omega
  · have h := pay10_at (xC m c) (dF m c b) i j
    simp only [Idealize.ShloMosaic.ix3_eq_valueIdx, Idealize.ShloMosaic.ix2_eq_valueIdx] at h
    exact Eq.trans (if_neg hb) h

/-- The z neighbour has the same column group. -/
theorem gcol_z (c : Dev nD) : gcol (zN c) = gcol c := by revert c; decide

/-- A device's finished sum: its own product and the z neighbour's, at the row of its half. -/
theorem sC_at (c : Dev nD) (b : Fin 4) (i : Fin 1024) (j : Fin 512) :
    sC m c (ix3 b i j) = ((∑ k : Fin 2048, (xC m c (ix2 k ⟨1024 * (c.val % 2) + i.val, row_lt c _ i.isLt⟩) * dyAt m c (ix2 k ⟨gcol c + 512 * b.val + j.val, col_lt c b j.val j.isLt⟩) : EReal))
      + ∑ k : Fin 2048, (xC m (zN c) (ix2 k ⟨1024 * (c.val % 2) + i.val, row_lt c _ i.isLt⟩) * dyAt m (zN c) (ix2 k ⟨gcol c + 512 * b.val + j.val, col_lt c b j.val j.isLt⟩) : EReal) : EReal) := by
  have h := pay11_at (pH m c b) (zH m c b) i j
  simp only [Idealize.ShloMosaic.ix3_eq_valueIdx] at h
  have hg := gcol_z c
  refine Eq.trans (show sC m c (ix3 b i j) = k0_pay11 (pH m c b) (zH m c b) (ix3 0 i j) from rfl) (h.trans ?_)
  refine congrArg₂ (fun s t : EReal => s + t) ?_ ?_
  · exact PC_at m c b ⟨0, by decide⟩ ⟨1024 * (c.val % 2) + i.val, row_lt c _ i.isLt⟩ j
  · refine (PC_at m (zN c) b ⟨0, by decide⟩ ⟨1024 * (c.val % 2) + i.val, row_lt c _ i.isLt⟩ j).trans (Finset.sum_congr rfl fun k _ => ?_)
    refine congrArg (fun t => (xC m (zN c) (ix2 k ⟨1024 * (c.val % 2) + i.val, row_lt c _ i.isLt⟩) * dyAt m (zN c) (ix2 k t) : EReal)) (Fin.ext ?_)
    show gcol (zN c) + 512 * b.val + j.val = gcol c + 512 * b.val + j.val
    rw [hg]

variable (X : (⟨2, ![4096, 2048]⟩ : Shape).Idx → EReal) (D : (⟨2, ![4096, 8192]⟩ : Shape).Idx → EReal)

/-- A row of a device's block is a row of the whole. -/
theorem half_lt (c : Dev nD) (k : Fin 2048) : 2048 * (c.val % 2) + k.val < 4096 := by have := k.isLt; omega

/-- One device's share of the reference's sum. -/
def share (z : ℕ) (hz : z < 2) (i : Fin 2048) (j : Fin 8192) : EReal :=
  ∑ k : Fin 2048, X (ix2 ⟨2048 * z + k.val, by have := k.isLt; omega⟩ i) * D (ix2 ⟨2048 * z + k.val, by have := k.isLt; omega⟩ j)

/-- The reference's sum is the two shares' sum, in either order. -/
theorem share_sum (z z' : ℕ) (hz : z < 2) (hz' : z' < 2) (hne : z ≠ z') (i : Fin 2048) (j : Fin 8192) :
    share X D z hz i j + share X D z' hz' i j = ∑ k : Fin 4096, X (ix2 k i) * D (ix2 k j) := by
  rw [Fin.sum_univ_two_halves 2048 2048 rfl]
  have h0 : share X D 0 (by decide) i j = ∑ k : Fin 2048, X (ix2 ⟨k.val, by have := k.isLt; omega⟩ i) * D (ix2 ⟨k.val, by have := k.isLt; omega⟩ j) := by
    unfold share
    refine Finset.sum_congr rfl fun k _ => ?_
    have e : (⟨2048 * 0 + k.val, by have := k.isLt; omega⟩ : Fin 4096) = ⟨k.val, by have := k.isLt; omega⟩ := Fin.ext (by simp)
    rw [e]
  have h1 : share X D 1 (by decide) i j = ∑ k : Fin 2048, X (ix2 ⟨2048 + k.val, by have := k.isLt; omega⟩ i) * D (ix2 ⟨2048 + k.val, by have := k.isLt; omega⟩ j) := by
    unfold share
    refine Finset.sum_congr rfl fun k _ => ?_
    have e : (⟨2048 * 1 + k.val, by have := k.isLt; omega⟩ : Fin 4096) = ⟨2048 + k.val, by have := k.isLt; omega⟩ := Fin.ext (by simp)
    rw [e]
  rw [← h0, ← h1]
  obtain ⟨rfl, rfl⟩ | ⟨rfl, rfl⟩ : (z = 0 ∧ z' = 1) ∨ (z = 1 ∧ z' = 0) := by omega
  · rfl
  · exact add_comm _ _

/-- Which block of an array cut along the mesh's last axis a device holds. -/
theorem block_row (c : Dev nD) : Layout.meshLin [2, 2, 2] c.val [2] = c.val % 2 := by revert c; decide

variable (hX : ∀ c : Dev nD, xC m c = Layout.blockN ⟨2, ![2048, 2048]⟩ ⟨2, ![4096, 2048]⟩ (Layout.meshBlock [2, 2, 2] ![[2], []] c) X)
  (hD : ∀ c : Dev nD, dyAt m c = Layout.blockN ⟨2, ![2048, 8192]⟩ ⟨2, ![4096, 8192]⟩ (Layout.meshBlock [2, 2, 2] ![[2], []] c) D)

include hX in
/-- A device's `x` at an index of the whole. -/
theorem x_at (c : Dev nD) (k i : Fin 2048) : xC m c (ix2 k i) = X (ix2 ⟨2048 * (c.val % 2) + k.val, half_lt c k⟩ i) := by
  rw [hX c]
  refine congrArg X (funext fun a => ?_)
  match a with
  | ⟨0, _⟩ => refine Fin.ext ?_; show Layout.meshLin [2, 2, 2] c.val [2] * 2048 + k.val = _; rw [block_row]; show _ = 2048 * (c.val % 2) + k.val; omega
  | ⟨1, _⟩ => refine Fin.ext ?_; show 0 * 2048 + i.val = i.val; omega

include hD in
/-- A device's `dy` at an index of the whole. -/
theorem d_at (c : Dev nD) (k : Fin 2048) (j : Fin 8192) : dyAt m c (ix2 k j) = D (ix2 ⟨2048 * (c.val % 2) + k.val, half_lt c k⟩ j) := by
  rw [hD c]
  refine congrArg D (funext fun a => ?_)
  match a with
  | ⟨0, _⟩ => refine Fin.ext ?_; show Layout.meshLin [2, 2, 2] c.val [2] * 2048 + k.val = _; rw [block_row]; show _ = 2048 * (c.val % 2) + k.val; omega
  | ⟨1, _⟩ => refine Fin.ext ?_; show 0 * 8192 + j.val = j.val; omega

include hX hD in
/-- A device's sum is its share. -/
theorem share_at (c : Dev nD) (i : Fin 2048) (j : Fin 8192) :
    (∑ k : Fin 2048, (xC m c (ix2 k i) * dyAt m c (ix2 k j) : EReal)) = share X D (c.val % 2) (Nat.mod_lt _ (by decide)) i j := by
  unfold share
  refine Finset.sum_congr rfl fun k _ => ?_
  rw [x_at m X hX c k i, d_at m D hD c k j]

include hX hD in
/-- A finished sum is the reference's element. -/
theorem sC_ref (c : Dev nD) (b : Fin 4) (i : Fin 1024) (j : Fin 512) :
    sC m c (ix3 b i j) = ∑ k : Fin 4096, X (ix2 k ⟨1024 * (c.val % 2) + i.val, row_lt c _ i.isLt⟩) * D (ix2 k ⟨gcol c + 512 * b.val + j.val, col_lt c b j.val j.isLt⟩) := by
  rw [sC_at, share_at m X D hX hD, share_at m X D hX hD, share_sum]
  revert c; decide

include hX hD in
/-- Each device's result is its block of the reference's. -/
theorem outC_ref (c : Dev nD) (v : (⟨2, ![2048, 8192]⟩ : Shape).Idx → EReal)
    (hv : ∀ (i : Fin 2048) (j : Fin 8192), v (ix2 i j) = ∑ k : Fin 4096, X (ix2 k i) * D (ix2 k j)) :
    outC m c = Layout.blockN ⟨2, ![1024, 8192]⟩ ⟨2, ![2048, 8192]⟩ (Layout.meshBlock [2, 2, 2] ![[2], []] c) v := by
  funext i
  obtain ⟨r, q, rfl⟩ : ∃ (r : Fin 1024) (q : Fin 8192), i = ix2 r q := ⟨i 0, i 1, ValueIdx.eq_ix2 i⟩
  have hq := q.isLt
  have hc : c.val < 8 := c.isLt
  have hg : (grp c ⟨q.val / 2048, by omega⟩).val = 2 * (q.val / 2048) + c.val % 2 := rfl
  refine Eq.trans (show outC m c (ix2 r q) = sC m (grp c ⟨q.val / 2048, by omega⟩) (ix3 (⟨q.val % 2048 / 512, by omega⟩ : Fin 4) r (⟨q.val % 512, Nat.mod_lt _ (by decide)⟩ : Fin 512)) from rfl) ?_
  rw [sC_ref m X D hX hD, ← hv]
  refine congrArg v (funext fun a => ?_)
  match a with
  | ⟨0, _⟩ =>
    refine Fin.ext ?_
    show 1024 * ((grp c ⟨q.val / 2048, by omega⟩).val % 2) + r.val = Layout.meshLin [2, 2, 2] c.val [2] * 1024 + r.val
    rw [block_row, hg]; omega
  | ⟨1, _⟩ =>
    refine Fin.ext ?_
    show gcol (grp c ⟨q.val / 2048, by omega⟩) + 512 * (q.val % 2048 / 512) + q.val % 512 = 0 * 8192 + q.val
    unfold gcol; rw [hg]; omega

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Value

@[expose] public section

noncomputable section

namespace Cert.Proof

open Idealize.ShloMosaic Idealize.SL.Sem Cert.Kernel

/-- The kernel as compiled runs, keeps its arguments, and leaves every counter at zero. -/
theorem frame_kernel : Cert.quiescent_Kernel := fun m ρ _ =>
  (θ_run Cert.KernelIdeal.defs _ _).mono (fun _ h => ⟨fun c => ⟨(h.1 c).1.1, (h.1 c).1.2.1⟩, h.2⟩)
    (Cert.KernelIdeal.Own.run_main (F := Bits) m ρ)

/-- The same over the reals. -/
theorem frame_ideal : Cert.quiescent_KernelIdeal := fun m ρ _ =>
  (θ_run Cert.KernelIdeal.defs _ _).mono (fun _ h => ⟨fun c => ⟨(h.1 c).1.1, (h.1 c).1.2.1⟩, h.2⟩)
    (Cert.KernelIdeal.Own.run_main (F := Ideal) m ρ)

/-- The reference runs, keeps its arguments, and leaves every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's results are its devices' blocks of the reference's. -/
theorem value : Cert.algebraic_KernelIdeal_ReferenceIdeal := fun m g m' g' _ hio =>
  ⟨_, (θ_run Cert.KernelIdeal.defs _ _).mono
      (fun _ h c => ⟨(h.1 c).1.2.2.trans (Cert.KernelIdeal.Own.outC_ref m _ _ (fun c => (hio c).1) (fun c => (hio c).2) c _ fun i j =>
          (congrArg _ (Idealize.ShloMosaic.ix2_eq_valueIdx i j).symm).trans ((Cert.KernelIdeal.Own.ref_at _ _ i j).trans (by
            simp only [Idealize.ShloMosaic.ix2_eq_valueIdx]))), (h.1 c).1.1, (h.1 c).1.2.1⟩)
      (Cert.KernelIdeal.Own.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
